-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v88) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v80) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v61) = v0 c
          ∧ r.2.mem ((c.tc : Thread Cert.MergeRefIdeal.nD Cert.MergeRefIdeal.τ).loc Cert.MergeRefIdeal.main_v82) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v73_0)) (v1 : (c : Dev Cert.ProjIdeal.nD) → Buf (Elt Ideal) ((c.tc : Thread Cert.ProjIdeal.nD Cert.ProjIdeal.τ).loc Cert.ProjIdeal.main_v73_1)) (v2 : (c : Dev Cert.ProjIdeal.nD) → Buf (Elt Ideal) ((c.tc : Thread Cert.ProjIdeal.nD Cert.ProjIdeal.τ).loc Cert.ProjIdeal.main_v73_2)) (v3 : (c : Dev Cert.ProjIdeal.nD) → Buf (Elt Ideal) ((c.tc : Thread Cert.ProjIdeal.nD Cert.ProjIdeal.τ).loc Cert.ProjIdeal.main_v73_3)) (v4 : (c : Dev Cert.ProjIdeal.nD) → Buf (Elt Ideal) ((c.tc : Thread Cert.ProjIdeal.nD Cert.ProjIdeal.τ).loc Cert.ProjIdeal.main_v73_4)) (v5 : (c : Dev Cert.ProjIdeal.nD) → Buf (Elt Ideal) ((c.tc : Thread Cert.ProjIdeal.nD Cert.ProjIdeal.τ).loc Cert.ProjIdeal.main_v73_5)) (v6 : (c : Dev Cert.ProjIdeal.nD) → Buf (Elt Ideal) ((c.tc : Thread Cert.ProjIdeal.nD Cert.ProjIdeal.τ).loc Cert.ProjIdeal.main_v73_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v73_0) = v0 c
          ∧ r.2.mem ((c.tc : Thread Cert.ProjIdeal.nD Cert.ProjIdeal.τ).loc Cert.ProjIdeal.main_v73_1) = v1 c
          ∧ r.2.mem ((c.tc : Thread Cert.ProjIdeal.nD Cert.ProjIdeal.τ).loc Cert.ProjIdeal.main_v73_2) = v2 c
          ∧ r.2.mem ((c.tc : Thread Cert.ProjIdeal.nD Cert.ProjIdeal.τ).loc Cert.ProjIdeal.main_v73_3) = v3 c
          ∧ r.2.mem ((c.tc : Thread Cert.ProjIdeal.nD Cert.ProjIdeal.τ).loc Cert.ProjIdeal.main_v73_4) = v4 c
          ∧ r.2.mem ((c.tc : Thread Cert.ProjIdeal.nD Cert.ProjIdeal.τ).loc Cert.ProjIdeal.main_v73_5) = v5 c
          ∧ r.2.mem ((c.tc : Thread Cert.ProjIdeal.nD Cert.ProjIdeal.τ).loc Cert.ProjIdeal.main_v73_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v74) = v0 c
          ∧ r.2.mem ((c.tc : Thread Cert.ProjRefIdeal.nD Cert.ProjRefIdeal.τ).loc Cert.ProjRefIdeal.main_v75) = v1 c
          ∧ r.2.mem ((c.tc : Thread Cert.ProjRefIdeal.nD Cert.ProjRefIdeal.τ).loc Cert.ProjRefIdeal.main_v133) = v2 c
          ∧ r.2.mem ((c.tc : Thread Cert.ProjRefIdeal.nD Cert.ProjRefIdeal.τ).loc Cert.ProjRefIdeal.main_v134) = v3 c
          ∧ r.2.mem ((c.tc : Thread Cert.ProjRefIdeal.nD Cert.ProjRefIdeal.τ).loc Cert.ProjRefIdeal.main_v135) = v4 c
          ∧ r.2.mem ((c.tc : Thread Cert.ProjRefIdeal.nD Cert.ProjRefIdeal.τ).loc Cert.ProjRefIdeal.main_v79) = v5 c
          ∧ r.2.mem ((c.tc : Thread Cert.ProjRefIdeal.nD Cert.ProjRefIdeal.τ).loc Cert.ProjRefIdeal.main_v80) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_scores_finite : Cert.Pre_scores_finite.Facts),
    quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
-- ==== Pre_scores_finite.lean ====
abbrev S8 : Shape := ⟨1, ![8]⟩
abbrev S2x8192x1024 : Shape := ⟨3, ![2, 8192, 1024]⟩
abbrev S2x8192x256 : Shape := ⟨3, ![2, 8192, 256]⟩
abbrev S2x256x256 : Shape := ⟨3, ![2, 256, 256]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S2x8192x1024 : S_.BroadcastsInDim S2x8192x1024 (![] : Fin 0 → Fin S2x8192x1024.rank)
  bcast_S_S2x8192x256 : S_.BroadcastsInDim S2x8192x256 (![] : Fin 0 → Fin S2x8192x256.rank)
  bcast_S_S2x256x256 : S_.BroadcastsInDim S2x256x256 (![] : Fin 0 → Fin S2x256x256.rank)

variable [Facts]

def fn {F : FTy → Type} [FloatOps F] (main_arg0 : FVec F S8 .f32) (main_arg1 : FVec F S2x8192x1024 .bf16) (main_arg2 : FVec F S2x8192x256 .bf16) (main_arg3 : FVec F S2x8192x256 .bf16) (main_arg4 : FVec F S2x256x256 .bf16) (main_arg5 : FVec F S2x256x256 .bf16) : IVec S8 1 × IVec S2x8192x1024 1 × IVec S2x8192x256 1 × IVec S2x256x256 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S2x8192x1024 .f32 := (extf .f32 · bitsLt_bf16_f32) main_arg1
  let main_v4 : FVec F S2x8192x1024 .f32 := Host.absf main_v3
  let main_cst_0 : FVec F S_ .f32 := constant S_ .f32 0x7F800000#32
  let main_v5 : FVec F S2x8192x1024 .f32 := broadcastInDim S2x8192x1024 ![] bcast_S_S2x8192x1024 main_cst_0
  let main_v6 : IVec S2x8192x1024 1 := cmpf .olt main_v4 main_v5
  let main_v7 : FVec F S2x8192x256 .f32 := (extf .f32 · bitsLt_bf16_f32) main_arg2
  let main_v8 : FVec F S2x8192x256 .f32 := Host.absf main_v7
  let main_cst_1 : FVec F S_ .f32 := constant S_ .f32 0x7F800000#32
  let main_v9 : FVec F S2x8192x256 .f32 := broadcastInDim S2x8192x256 ![] bcast_S_S2x8192x256 main_cst_1
  let main_v10 : IVec S2x8192x256 1 := cmpf .olt main_v8 main_v9
  let main_v11 : FVec F S2x256x256 .f32 := (extf .f32 · bitsLt_bf16_f32) main_arg4
  let main_v12 : FVec F S2x256x256 .f32 := Host.absf main_v11
  let main_cst_2 : FVec F S_ .f32 := constant S_ .f32 0x7F800000#32
  let main_v13 : FVec F S2x256x256 .f32 := broadcastInDim S2x256x256 ![] bcast_S_S2x256x256 main_cst_2
  let main_v14 : IVec S2x256x256 1 := cmpf .olt main_v12 main_v13
  (main_v2, main_v6, main_v10, main_v14)
-- ==== Attn.lean ====
abbrev S8 : Shape := ⟨1, ![8]⟩
abbrev S2x8192x1024 : Shape := ⟨3, ![2, 8192, 1024]⟩
abbrev S2x8192x256 : Shape := ⟨3, ![2, 8192, 256]⟩
abbrev S2x256x256 : Shape := ⟨3, ![2, 256, 256]⟩
abbrev S1x512x1024 : Shape := ⟨3, ![1, 512, 1024]⟩
abbrev S1x512x256 : Shape := ⟨3, ![1, 512, 256]⟩
abbrev S1x128x256 : Shape := ⟨3, ![1, 128, 256]⟩
abbrev S1x256x256 : Shape := ⟨3, ![1, 256, 256]⟩
abbrev S768x256 : Shape := ⟨2, ![768, 256]⟩
abbrev S128x256 : Shape := ⟨2, ![128, 256]⟩
abbrev S512x256 : Shape := ⟨2, ![512, 256]⟩
abbrev S512x384 : Shape := ⟨2, ![512, 384]⟩
abbrev S1x128x128 : Shape := ⟨3, ![1, 128, 128]⟩
abbrev S128x128 : Shape := ⟨2, ![128, 128]⟩
abbrev S512x128 : Shape := ⟨2, ![512, 128]⟩
abbrev S1 : Shape := ⟨1, ![1]⟩
abbrev S128x1 : Shape := ⟨2, ![128, 1]⟩
abbrev S512x1 : Shape := ⟨2, ![512, 1]⟩
abbrev S384x128 : Shape := ⟨2, ![384, 128]⟩
abbrev S1x256x128 : Shape := ⟨3, ![1, 256, 128]⟩
abbrev S256x128 : Shape := ⟨2, ![256, 128]⟩
abbrev S512 : Shape := ⟨1, ![512]⟩

abbrev nBuf : Space → Nat
  | .hbm => 7
  | .vmem => 22
  | .smem => 1
  | _ => 0

abbrev bufTy : (tb : Table) → Fin (tcTables nBuf tb) → BufTy
  | .hbm, ⟨0, _⟩ => ⟨S8, .f32⟩
  | .hbm, ⟨1, _⟩ => ⟨S2x8192x1024, .bf16⟩
  | .hbm, ⟨2, _⟩ => ⟨S2x8192x256, .bf16⟩
  | .hbm, ⟨3, _⟩ => ⟨S2x8192x256, .bf16⟩
  | .hbm, ⟨4, _⟩ => ⟨S2x256x256, .bf16⟩
  | .hbm, ⟨5, _⟩ => ⟨S2x256x256, .bf16⟩
  | .hbm, ⟨6, _⟩ => ⟨S2x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x256, .bf16⟩
  | .local _ .vmem, ⟨3, _⟩ => ⟨S1x512x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x512x1024, .bf16⟩
  | .local _ .vmem, ⟨19, _⟩ => ⟨S1x512x1024, .bf16⟩
  | .local _ .vmem, ⟨20, _⟩ => ⟨S768x256, .bf16⟩
  | .local _ .vmem, ⟨21, _⟩ => ⟨S768x256, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8 : Shape := ⟨1, ![8]⟩
abbrev S2x8192x1024 : Shape := ⟨3, ![2, 8192, 1024]⟩
abbrev S2x8192x256 : Shape := ⟨3, ![2, 8192, 256]⟩
abbrev S2x256x256 : Shape := ⟨3, ![2, 256, 256]⟩
abbrev S2x64x128x2x4x128 : Shape := ⟨6, ![2, 64, 128, 2, 4, 128]⟩
abbrev S2x256x2x128 : Shape := ⟨4, ![2, 256, 2, 128]⟩
abbrev S2x64x128x2x128 : Shape := ⟨5, ![2, 64, 128, 2, 128]⟩
abbrev S_ : Shape := ⟨0, ![]⟩
abbrev S2x66x128x2x128 : Shape := ⟨5, ![2, 66, 128, 2, 128]⟩
abbrev S2x64x384x2x128 : Shape := ⟨5, ![2, 64, 384, 2, 128]⟩
abbrev S2x64x2x384x128x4 : Shape := ⟨6, ![2, 64, 2, 384, 128, 4]⟩
abbrev S2x64x2x4x128x384 : Shape := ⟨6, ![2, 64, 2, 4, 128, 384]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S64x128x1 : Shape := ⟨3, ![64, 128, 1]⟩
abbrev S384 : Shape := ⟨1, ![384]⟩
abbrev S1x1x384 : Shape := ⟨3, ![1, 1, 384]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S2x2x256x64x128x4 : Shape := ⟨6, ![2, 2, 256, 64, 128, 4]⟩
abbrev S2x64x2x4x128x256 : Shape := ⟨6, ![2, 64, 2, 4, 128, 256]⟩
abbrev S1x1x2x4x1 : Shape := ⟨5, ![1, 1, 2, 4, 1]⟩
abbrev S2x64x2x4x128 : Shape := ⟨5, ![2, 64, 2, 4, 128]⟩
abbrev S2x64x2x4x128x1 : Shape := ⟨6, ![2, 64, 2, 4, 128, 1]⟩
abbrev S2x64x2x4x128x128 : Shape := ⟨6, ![2, 64, 2, 4, 128, 128]⟩
abbrev S2x2x128x64x4x128 : Shape := ⟨6, ![2, 2, 128, 64, 4, 128]⟩

abbrev nBuf : Space → Nat
  | .hbm => 113
  | .vmem => 0
  | .smem => 0
  | _ => 0

abbrev bufTy : (tb : Table) → Fin (tcTables nBuf tb) → BufTy
  | .hbm, ⟨0, _⟩ => ⟨S8, .f32⟩
  | .hbm, ⟨1, _⟩ => ⟨S2x8192x1024, .bf16⟩
  | .hbm, ⟨2, _⟩ => ⟨S2x8192x256, .bf16⟩
  | .hbm, ⟨3, _⟩ => ⟨S2x8192x256, .bf16⟩
  | .hbm, ⟨4, _⟩ => ⟨S2x256x256, .bf16⟩
  | .hbm, ⟨5, _⟩ => ⟨S2x256x256, .bf16⟩
  | .hbm, ⟨6, _⟩ => ⟨S2x8192x1024, .f32⟩
  | .hbm, ⟨7, _⟩ => ⟨S2x8192x256, .f32⟩
  | .hbm, ⟨8, _⟩ => ⟨S2x8192x256, .f32⟩
  | .hbm, ⟨9, _⟩ => ⟨S2x256x256, .f32⟩
  | .hbm, ⟨10, _⟩ => ⟨S2x256x256, .f32⟩
  | .hbm, ⟨11, _⟩ => ⟨S2x64x128x2x4x128, .f32⟩
  | .hbm, ⟨12, _⟩ => ⟨S2x256x2x128, .f32⟩
  | .hbm, ⟨13, _⟩ => ⟨S2x256x2x128, .f32⟩
  | .hbm, ⟨14, _⟩ => ⟨S2x64x128x2x128, .f32⟩
  | .hbm, ⟨15, _⟩ => ⟨S_, .i32⟩
  | .hbm, ⟨16, _⟩ => ⟨S_, .f32⟩
  | .hbm, ⟨17, _⟩ => ⟨S2x66x128x2x128, .f32⟩
  | .hbm, ⟨18, _⟩ => ⟨S2x64x128x2x128, .f32⟩
  | .hbm, ⟨19, _⟩ => ⟨S2x64x128x2x128, .f32⟩
  | .hbm, ⟨20, _⟩ => ⟨S2x64x128x2x128, .f32⟩
  | .hbm, ⟨21, _⟩ => ⟨S2x64x384x2x128, .f32⟩
  | .hbm, ⟨22, _⟩ => ⟨S2x64x128x2x128, .f32⟩
  | .hbm, ⟨23, _⟩ => ⟨S_, .i32⟩
  | .hbm, ⟨24, _⟩ => ⟨S_, .f32⟩
  | .hbm, ⟨25, _⟩ => ⟨S2x66x128x2x128, .f32⟩
  | .hbm, ⟨26, _⟩ => ⟨S2x64x128x2x128, .f32⟩
  | .hbm, ⟨27, _⟩ => ⟨S2x64x128x2x128, .f32⟩
  | .hbm, ⟨28, _⟩ => ⟨S2x64x128x2x128, .f32⟩
  | .hbm, ⟨29, _⟩ => ⟨S2x64x384x2x128, .f32⟩
  | .hbm, ⟨30, _⟩ => ⟨S2x64x2x384x128x4, .f32⟩
  | .hbm, ⟨31, _⟩ => ⟨S2x64x2x4x128x384, .f32⟩
  | .hbm, ⟨32, _⟩ => ⟨S64, .i32⟩
  | .hbm, ⟨33, _⟩ => ⟨S64x1x1, .i32⟩
  | .hbm, ⟨34, _⟩ => ⟨S_, .i32⟩
  | .hbm, ⟨35, _⟩ => ⟨S64x1x1, .i32⟩
  | .hbm, ⟨36, _⟩ => ⟨S64x1x1, .i32⟩
  | .hbm, ⟨37, _⟩ => ⟨S128, .i32⟩
  | .hbm, ⟨38, _⟩ => ⟨S1x128x1, .i32⟩
  | .hbm, ⟨39, _⟩ => ⟨S64x128x1, .i32⟩
  | .hbm, ⟨40, _⟩ => ⟨S64x128x1, .i32⟩
  | .hbm, ⟨41, _⟩ => ⟨S64x128x1, .i32⟩
  | .hbm, ⟨42, _⟩ => ⟨S_, .i32⟩
  | .hbm, ⟨43, _⟩ => ⟨S64x1x1, .i32⟩
  | .hbm, ⟨44, _⟩ => ⟨S64x1x1, .i32⟩
  | .hbm, ⟨45, _⟩ => ⟨S_, .i32⟩
  | .hbm, ⟨46, _⟩ => ⟨S64x1x1, .i32⟩
  | .hbm, ⟨47, _⟩ => ⟨S64x1x1, .i32⟩
  | .hbm, ⟨48, _⟩ => ⟨S384, .i32⟩
  | .hbm, ⟨49, _⟩ => ⟨S1x1x384, .i32⟩
  | .hbm, ⟨50, _⟩ => ⟨S64x1x384, .i32⟩
  | .hbm, ⟨51, _⟩ => ⟨S64x1x384, .i32⟩
  | .hbm, ⟨52, _⟩ => ⟨S64x1x384, .i32⟩
  | .hbm, ⟨53, _⟩ => ⟨S64x128x384, .i32⟩
  | .hbm, ⟨54, _⟩ => ⟨S64x128x384, .i32⟩
  | .hbm, ⟨55, _⟩ => ⟨S64x128x384, .i32⟩
  | .hbm, ⟨56, _⟩ => ⟨S64x128x384, .i32⟩
  | .hbm, ⟨57, _⟩ => ⟨S_, .i32⟩
  | .hbm, ⟨58, _⟩ => ⟨S64x128x384, .i32⟩
  | .hbm, ⟨59, _⟩ => ⟨S64x128x384, .i1⟩
  | .hbm, ⟨60, _⟩ => ⟨S_, .i32⟩
  | .hbm, ⟨61, _⟩ => ⟨S64x1x384, .i32⟩
  | .hbm, ⟨62, _⟩ => ⟨S64x1x384, .i1⟩
  | .hbm, ⟨63, _⟩ => ⟨S64x128x384, .i1⟩
  | .hbm, ⟨64, _⟩ => ⟨S64x128x384, .i1⟩
  | .hbm, ⟨65, _⟩ => ⟨S_, .i32⟩
  | .hbm, ⟨66, _⟩ => ⟨S64x1x384, .i32⟩
  | .hbm, ⟨67, _⟩ => ⟨S64x1x384, .i1⟩
  | .hbm, ⟨68, _⟩ => ⟨S64x128x384, .i1⟩
  | .hbm, ⟨69, _⟩ => ⟨S64x128x384, .i1⟩
  | .hbm, ⟨70, _⟩ => ⟨S1x64x1x1x128x384, .i1⟩
  | .hbm, ⟨71, _⟩ => ⟨S_, .f32⟩
  | .hbm, ⟨72, _⟩ => ⟨S_, .f32⟩
  | .hbm, ⟨73, _⟩ => ⟨S2x64x2x4x128x384, .i1⟩
  | .hbm, ⟨74, _⟩ => ⟨S2x64x2x4x128x384, .f32⟩
  | .hbm, ⟨75, _⟩ => ⟨S2x64x2x4x128x384, .f32⟩
  | .hbm, ⟨76, _⟩ => ⟨S2x2x256x64x128x4, .f32⟩
  | .hbm, ⟨77, _⟩ => ⟨S2x64x2x4x128x256, .f32⟩
  | .hbm, ⟨78, _⟩ => ⟨S1x1x2x4x1, .f32⟩
  | .hbm, ⟨79, _⟩ => ⟨S_, .f32⟩
  | .hbm, ⟨80, _⟩ => ⟨S2x64x2x4x128, .f32⟩
  | .hbm, ⟨81, _⟩ => ⟨S_, .f32⟩
  | .hbm, ⟨82, _⟩ => ⟨S2x64x2x4x128, .f32⟩
  | .hbm, ⟨83, _⟩ => ⟨S2x64x2x4x128, .f32⟩
  | .hbm, ⟨84, _⟩ => ⟨S2x64x2x4x128, .f32⟩
  | .hbm, ⟨85, _⟩ => ⟨S2x64x2x4x128, .f32⟩
  | .hbm, ⟨86, _⟩ => ⟨S2x64x2x4x128x1, .f32⟩
  | .hbm, ⟨87, _⟩ => ⟨S2x64x2x4x128x384, .f32⟩
  | .hbm, ⟨88, _⟩ => ⟨S2x64x2x4x128x384, .f32⟩
  | .hbm, ⟨89, _⟩ => ⟨S2x64x2x4x128x384, .f32⟩
  | .hbm, ⟨90, _⟩ => ⟨S2x64x2x4x128x1, .f32⟩
  | .hbm, ⟨91, _⟩ => ⟨S2x64x2x4x128x256, .f32⟩
  | .hbm, ⟨92, _⟩ => ⟨S2x64x2x4x128x256, .f32⟩
  | .hbm, ⟨93, _⟩ => ⟨S2x64x2x4x128x256, .f32⟩
  | .hbm, ⟨94, _⟩ => ⟨S_, .f32⟩
  | .hbm, ⟨95, _⟩ => ⟨S2x64x2x4x128, .f32⟩
  | .hbm, ⟨96, _⟩ => ⟨S_, .f32⟩
  | .hbm, ⟨97, _⟩ => ⟨S2x64x2x4x128, .f32⟩
  | .hbm, ⟨98, _⟩ => ⟨S2x64x2x4x128, .f32⟩
  | .hbm, ⟨99, _⟩ => ⟨S2x64x2x4x128, .f32⟩
  | .hbm, ⟨100, _⟩ => ⟨S2x64x2x4x128, .f32⟩
  | .hbm, ⟨101, _⟩ => ⟨S2x64x2x4x128, .f32⟩
  | .hbm, ⟨102, _⟩ => ⟨S2x64x2x4x128, .f32⟩
  | .hbm, ⟨103, _⟩ => ⟨S2x64x2x4x128x128, .f32⟩
  | .hbm, ⟨104, _⟩ => ⟨S2x2x128x64x4x128, .f32⟩
  | .hbm, ⟨105, _⟩ => ⟨S2x64x2x4x128x128, .f32⟩
  | .hbm, ⟨106, _⟩ => ⟨S2x64x2x4x128x128, .f32⟩
  | .hbm, ⟨107, _⟩ => ⟨S2x64x2x4x128x1, .f32⟩
  | .hbm, ⟨108, _⟩ => ⟨S2x64x2x4x128x128, .f32⟩
  | .hbm, ⟨109, _⟩ => ⟨S2x64x2x4x128x128, .f32⟩
  | .hbm, ⟨110, _⟩ => ⟨S2x64x128x2x4x128, .f32⟩
  | .hbm, ⟨111, _⟩ => ⟨S2x8192x1024, .f32⟩
  | .hbm, ⟨112, _⟩ => ⟨S2x8192x1024, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_4 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩

abbrev nD : Nat := 1
abbrev τ : Topo := Topo.v7x

variable {F : FTy → Type} [FloatOps F]
-- ==== Ffn.lean ====
abbrev S2x8192x1024 : Shape := ⟨3, ![2, 8192, 1024]⟩
abbrev S8x6x1024 : Shape := ⟨3, ![8, 6, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S1x3072x1024 : Shape := ⟨3, ![1, 3072, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S1x1024 : Shape := ⟨2, ![1, 1024]⟩
abbrev S1x512x1024 : Shape := ⟨3, ![1, 512, 1024]⟩
abbrev S1x16x1024 : Shape := ⟨3, ![1, 16, 1024]⟩
abbrev S1x6x1024 : Shape := ⟨3, ![1, 6, 1024]⟩
abbrev S544x1024 : Shape := ⟨2, ![544, 1024]⟩
abbrev S544x512 : Shape := ⟨2, ![544, 512]⟩
abbrev S512x1024 : Shape := ⟨2, ![512, 1024]⟩
abbrev S16x1024 : Shape := ⟨2, ![16, 1024]⟩
abbrev S1024x512 : Shape := ⟨2, ![1024, 512]⟩
abbrev S1x512 : Shape := ⟨2, ![1, 512]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 17
  | .vmem => 21
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S8x6x1024, .f32⟩
  | .hbm, ⟨3, _⟩ => ⟨S1x1024x6144, .f32⟩
  | .hbm, ⟨4, _⟩ => ⟨S1x3x6144, .f32⟩
  | .hbm, ⟨5, _⟩ => ⟨S1x6144, .f32⟩
  | .hbm, ⟨6, _⟩ => ⟨S1x3072x1024, .f32⟩
  | .hbm, ⟨7, _⟩ => ⟨S1024, .f32⟩
  | .hbm, ⟨8, _⟩ => ⟨S1024x6144, .f32⟩
  | .hbm, ⟨9, _⟩ => ⟨S1024x6144, .bf16⟩
  | .hbm, ⟨10, _⟩ => ⟨S3x6144, .f32⟩
  | .hbm, ⟨11, _⟩ => ⟨S6144, .f32⟩
  | .hbm, ⟨12, _⟩ => ⟨S1x6144, .f32⟩
  | .hbm, ⟨13, _⟩ => ⟨S3072x1024, .f32⟩
  | .hbm, ⟨14, _⟩ => ⟨S3072x1024, .bf16⟩
  | .hbm, ⟨15, _⟩ => ⟨S1x1024, .f32⟩
  | .hbm, ⟨16, _⟩ => ⟨S2x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x6x1024, .f32⟩
  | .local _ .vmem, ⟨9, _⟩ => ⟨S1x6x1024, .f32⟩
  | .local _ .vmem, ⟨10, _⟩ => ⟨S1024x6144, .bf16⟩
  | .local _ .vmem, ⟨11, _⟩ => ⟨S3x6144, .f32⟩
  | .local _ .vmem, ⟨12, _⟩ => ⟨S1x6144, .f32⟩
  | .local _ .vmem, ⟨13, _⟩ => ⟨S3072x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S544x1024, .bf16⟩
  | .local _ .vmem, ⟨18, _⟩ => ⟨S544x512, .f32⟩
  | .local _ .vmem, ⟨19, _⟩ => ⟨S544x512, .f32⟩
  | .local _ .vmem, ⟨20, _⟩ => ⟨S512x1024, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3072x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S2x8192x1024 : Shape := ⟨3, ![2, 8192, 1024]⟩
abbrev S8x6x1024 : Shape := ⟨3, ![8, 6, 1024]⟩
abbrev S1x1024x6144 : Shape := ⟨3, ![1, 1024, 6144]⟩
abbrev S1x3x6144 : Shape := ⟨3, ![1, 3, 6144]⟩
abbrev S1x6144 : Shape := ⟨2, ![1, 6144]⟩
abbrev S1x3072x1024 : Shape := ⟨3, ![1, 3072, 1024]⟩
abbrev S1024 : Shape := ⟨1, ![1024]⟩
abbrev S2x1x1024 : Shape := ⟨3, ![2, 1, 1024]⟩
abbrev S2x1024 : Shape := ⟨2, ![2, 1024]⟩
abbrev S1024x6144 : Shape := ⟨2, ![1024, 6144]⟩
abbrev S2x8192x6144 : Shape := ⟨3, ![2, 8192, 6144]⟩
abbrev S3x6144 : Shape := ⟨2, ![3, 6144]⟩
abbrev S6144 : Shape := ⟨1, ![6144]⟩
abbrev S_ : Shape := ⟨0, ![]⟩
abbrev S2x8194x6144 : Shape := ⟨3, ![2, 8194, 6144]⟩
abbrev S1x1x6144 : Shape := ⟨3, ![1, 1, 6144]⟩
abbrev S2x8192x3072 : Shape := ⟨3, ![2, 8192, 3072]⟩
abbrev S3072x1024 : Shape := ⟨2, ![3072, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S8x6x1024, .f32⟩
  | .hbm, ⟨3, _⟩ => ⟨S1x1024x6144, .f32⟩
  | .hbm, ⟨4, _⟩ => ⟨S1x3x6144, .f32⟩
  | .hbm, ⟨5, _⟩ => ⟨S1x6144, .f32⟩
  | .hbm, ⟨6, _⟩ => ⟨S1x3072x1024, .f32⟩
  | .hbm, ⟨7, _⟩ => ⟨S1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1x1024, .f32⟩
  | .hbm, ⟨18, _⟩ => ⟨S2x1024, .f32⟩
  | .hbm, ⟨19, _⟩ => ⟨S2x1x1024, .f32⟩
  | .hbm, ⟨20, _⟩ => ⟨S2x1x1024, .f32⟩
  | .hbm, ⟨21, _⟩ => ⟨S2x1024, .f32⟩
  | .hbm, ⟨22, _⟩ => ⟨S2x1x1024, .f32⟩
  | .hbm, ⟨23, _⟩ => ⟨S2x1x1024, .f32⟩
  | .hbm, ⟨24, _⟩ => ⟨S2x1024, .f32⟩
  | .hbm, ⟨25, _⟩ => ⟨S2x1x1024, .f32⟩
  | .hbm, ⟨26, _⟩ => ⟨S2x8192x1024, .f32⟩
  | .hbm, ⟨27, _⟩ => ⟨S1024x6144, .f32⟩
  | .hbm, ⟨28, _⟩ => ⟨S2x8192x6144, .f32⟩
  | .hbm, ⟨29, _⟩ => ⟨S3x6144, .f32⟩
  | .hbm, ⟨30, _⟩ => ⟨S6144, .f32⟩
  | .hbm, ⟨31, _⟩ => ⟨S_, .i32⟩
  | .hbm, ⟨32, _⟩ => ⟨S_, .f32⟩
  | .hbm, ⟨33, _⟩ => ⟨S2x8194x6144, .f32⟩
  | .hbm, ⟨34, _⟩ => ⟨S2x8192x6144, .f32⟩
  | .hbm, ⟨35, _⟩ => ⟨S1x6144, .f32⟩
  | .hbm, ⟨36, _⟩ => ⟨S6144, .f32⟩
  | .hbm, ⟨37, _⟩ => ⟨S1x1x6144, .f32⟩
  | .hbm, ⟨38, _⟩ => ⟨S2x8192x6144, .f32⟩
  | .hbm, ⟨39, _⟩ => ⟨S2x8192x6144, .f32⟩
  | .hbm, ⟨40, _⟩ => ⟨S2x8192x6144, .f32⟩
  | .hbm, ⟨41, _⟩ => ⟨S1x6144, .f32⟩
  | .hbm, ⟨42, _⟩ => ⟨S6144, .f32⟩
  | .hbm, ⟨43, _⟩ => ⟨S1x1x6144, .f32⟩
  | .hbm, ⟨44, _⟩ => ⟨S2x8192x6144, .f32⟩
  | .hbm, ⟨45, _⟩ => ⟨S2x8192x6144, .f32⟩
  | .hbm, ⟨46, _⟩ => ⟨S2x8192x6144, .f32⟩
  | .hbm, ⟨47, _⟩ => ⟨S2x8192x6144, .f32⟩
  | .hbm, ⟨48, _⟩ => ⟨S1x6144, .f32⟩
  | .hbm, ⟨49, _⟩ => ⟨S6144, .f32⟩
  | .hbm, ⟨50, _⟩ => ⟨S1x1x6144, .f32⟩
  | .hbm, ⟨51, _⟩ => ⟨S2x8192x6144, .f32⟩
  | .hbm, ⟨52, _⟩ => ⟨S2x8192x6144, .f32⟩
  | .hbm, ⟨53, _⟩ => ⟨S2x8192x6144, .f32⟩
  | .hbm, ⟨54, _⟩ => ⟨S1x1x6144, .f32⟩
  | .hbm, ⟨55, _⟩ => ⟨S2x8192x6144, .f32⟩
  | .hbm, ⟨56, _⟩ => ⟨S2x8192x6144, .f32⟩
  | .hbm, ⟨57, _⟩ => ⟨S2x8192x3072, .f32⟩
  | .hbm, ⟨58, _⟩ => ⟨S2x8192x3072, .f32⟩
  | .hbm, ⟨59, _⟩ => ⟨S2x8192x3072, .f32⟩
  | .hbm, ⟨60, _⟩ => ⟨S2x8192x3072, .f32⟩
  | .hbm, ⟨61, _⟩ => ⟨S_, .f32⟩
  | .hbm, ⟨62, _⟩ => ⟨S2x8192x3072, .f32⟩
  | .hbm, ⟨63, _⟩ => ⟨S2x8192x3072, .f32⟩
  | .hbm, ⟨64, _⟩ => ⟨S2x8192x3072, .f32⟩
  | .hbm, ⟨65, _⟩ => ⟨S_, .f32⟩
  | .hbm, ⟨66, _⟩ => ⟨S2x8192x3072, .f32⟩
  | .hbm, ⟨67, _⟩ => ⟨S2x8192x3072, .f32⟩
  | .hbm, ⟨68, _⟩ => ⟨S2x8192x3072, .f32⟩
  | .hbm, ⟨69, _⟩ => ⟨S_, .f32⟩
  | .hbm, ⟨70, _⟩ => ⟨S2x8192x3072, .f32⟩
  | .hbm, ⟨71, _⟩ => ⟨S2x8192x3072, .f32⟩
  | .hbm, ⟨72, _⟩ => ⟨S_, .f32⟩
  | .hbm, ⟨73, _⟩ => ⟨S2x8192x3072, .f32⟩
  | .hbm, ⟨74, _⟩ => ⟨S2x8192x3072, .f32⟩
  | .hbm, ⟨75, _⟩ => ⟨S2x8192x3072, .f32⟩
  | .hbm, ⟨76, _⟩ => ⟨S2x8192x3072, .f32⟩
  | .hbm, ⟨77, _⟩ => ⟨S3072x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S_, .f32⟩
  | .hbm, ⟨84, _⟩ => ⟨S2x8192, .f32⟩
  | .hbm, ⟨85, _⟩ => ⟨S2x8192x1, .f32⟩
  | .hbm, ⟨86, _⟩ => ⟨S_, .f32⟩
  | .hbm, ⟨87, _⟩ => ⟨S2x8192x1, .f32⟩
  | .hbm, ⟨88, _⟩ => ⟨S2x8192x1, .f32⟩
  | .hbm, ⟨89, _⟩ => ⟨S_, .f32⟩
  | .hbm, ⟨90, _⟩ => ⟨S2x8192x1, .f32⟩
  | .hbm, ⟨91, _⟩ => ⟨S2x8192x1, .f32⟩
  | .hbm, ⟨92, _⟩ => ⟨S2x8192x1, .f32⟩
  | .hbm, ⟨93, _⟩ => ⟨S2x8192x1024, .f32⟩
  | .hbm, ⟨94, _⟩ => ⟨S2x8192x1024, .f32⟩
  | .hbm, ⟨95, _⟩ => ⟨S1x1x1024, .f32⟩
  | .hbm, ⟨96, _⟩ => ⟨S2x8192x1024, .f32⟩
  | .hbm, ⟨97, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_0 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_1 : Ref sig .tc := ⟨.hbm, 69, rfl⟩
abbrev main_v57 : Ref sig .tc := ⟨.hbm, 70, rfl⟩
abbrev main_v58 : Ref sig .tc := ⟨.hbm, 71, rfl⟩
abbrev main_cst_2 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_3 : Ref sig .tc := ⟨.hbm, 83, rfl⟩
abbrev main_v69 : Ref sig .tc := ⟨.hbm, 84, rfl⟩
abbrev main_v70 : Ref sig .tc := ⟨.hbm, 85, rfl⟩
abbrev main_cst_4 : Ref sig .tc := ⟨.hbm, 86, rfl⟩
abbrev main_v71 : Ref sig .tc := ⟨.hbm, 87, rfl⟩
abbrev main_v72 : Ref sig .tc := ⟨.hbm, 88, rfl⟩
abbrev main_cst_5 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩

abbrev nD : Nat := 1
abbrev τ : Topo := Topo.v7x

variable {F : FTy → Type} [FloatOps F]
-- ==== Merge.lean ====
abbrev S2x2x8192x1024 : Shape := ⟨4, ![2, 2, 8192, 1024]⟩
abbrev S2x8192x1024 : Shape := ⟨3, ![2, 8192, 1024]⟩
abbrev S8x6x1024 : Shape := ⟨3, ![8, 6, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1x1x256x1024 : Shape := ⟨4, ![1, 1, 256, 1024]⟩
abbrev S1x256x1024 : Shape := ⟨3, ![1, 256, 1024]⟩
abbrev S1x6x1024 : Shape := ⟨3, ![1, 6, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 21
  | .vmem => 24
  | .smem => 0
  | _ => 0

abbrev bufTy : (tb : Table) → Fin (tcTables nBuf tb) → BufTy
  | .hbm, ⟨0, _⟩ => ⟨S2x2x8192x1024, .f32⟩
  | .hbm, ⟨1, _⟩ => ⟨S2x8192x1024, .f32⟩
  | .hbm, ⟨2, _⟩ => ⟨S2x8192x1024, .bf16⟩
  | .hbm, ⟨3, _⟩ => ⟨S2x8192x1024, .f32⟩
  | .hbm, ⟨4, _⟩ => ⟨S2x8192x1024, .f32⟩
  | .hbm, ⟨5, _⟩ => ⟨S2x8192x1024, .f32⟩
  | .hbm, ⟨6, _⟩ => ⟨S8x6x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S2x8192x1024, .f32⟩
  | .hbm, ⟨20, _⟩ => ⟨S2x8192x1024, .bf16⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x6x1024, .f32⟩
  | .local _ .vmem, ⟨15, _⟩ => ⟨S1x6x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .bf16⟩
  | .local _ .vmem, ⟨23, _⟩ => ⟨S1x256x1024, .bf16⟩
  | _, _ => ⟨S2x2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S2x2x8192x1024 : Shape := ⟨4, ![2, 2, 8192, 1024]⟩
abbrev S2x8192x1024 : Shape := ⟨3, ![2, 8192, 1024]⟩
abbrev S8x6x1024 : Shape := ⟨3, ![8, 6, 1024]⟩
abbrev S1x1024x1024 : Shape := ⟨3, ![1, 1024, 1024]⟩
abbrev S1x1024 : Shape := ⟨2, ![1, 1024]⟩
abbrev S2x1x1024 : Shape := ⟨3, ![2, 1, 1024]⟩
abbrev S2x1024 : Shape := ⟨2, ![2, 1024]⟩
abbrev S1x2x8192x1024 : Shape := ⟨4, ![1, 2, 8192, 1024]⟩
abbrev S_ : Shape := ⟨0, ![]⟩
abbrev S1024x1024 : Shape := ⟨2, ![1024, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S2x2x8192x1024, .f32⟩
  | .hbm, ⟨1, _⟩ => ⟨S2x8192x1024, .f32⟩
  | .hbm, ⟨2, _⟩ => ⟨S2x8192x1024, .bf16⟩
  | .hbm, ⟨3, _⟩ => ⟨S2x8192x1024, .f32⟩
  | .hbm, ⟨4, _⟩ => ⟨S2x8192x1024, .f32⟩
  | .hbm, ⟨5, _⟩ => ⟨S2x8192x1024, .f32⟩
  | .hbm, ⟨6, _⟩ => ⟨S8x6x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x1x1024, .f32⟩
  | .hbm, ⟨15, _⟩ => ⟨S2x1024, .f32⟩
  | .hbm, ⟨16, _⟩ => ⟨S2x1x1024, .f32⟩
  | .hbm, ⟨17, _⟩ => ⟨S2x1x1024, .f32⟩
  | .hbm, ⟨18, _⟩ => ⟨S2x1024, .f32⟩
  | .hbm, ⟨19, _⟩ => ⟨S2x1x1024, .f32⟩
  | .hbm, ⟨20, _⟩ => ⟨S2x1x1024, .f32⟩
  | .hbm, ⟨21, _⟩ => ⟨S2x1024, .f32⟩
  | .hbm, ⟨22, _⟩ => ⟨S2x1x1024, .f32⟩
  | .hbm, ⟨23, _⟩ => ⟨S2x1x1024, .f32⟩
  | .hbm, ⟨24, _⟩ => ⟨S2x1024, .f32⟩
  | .hbm, ⟨25, _⟩ => ⟨S2x1x1024, .f32⟩
  | .hbm, ⟨26, _⟩ => ⟨S2x1x1024, .f32⟩
  | .hbm, ⟨27, _⟩ => ⟨S2x1024, .f32⟩
  | .hbm, ⟨28, _⟩ => ⟨S2x1x1024, .f32⟩
  | .hbm, ⟨29, _⟩ => ⟨S1x2x8192x1024, .f32⟩
  | .hbm, ⟨30, _⟩ => ⟨S2x8192x1024, .f32⟩
  | .hbm, ⟨31, _⟩ => ⟨S1x2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S_, .f32⟩
  | .hbm, ⟨55, _⟩ => ⟨S2x8192x1024, .f32⟩
  | .hbm, ⟨56, _⟩ => ⟨S2x8192x1024, .f32⟩
  | .hbm, ⟨57, _⟩ => ⟨S_, .f32⟩
  | .hbm, ⟨58, _⟩ => ⟨S2x8192x1024, .f32⟩
  | .hbm, ⟨59, _⟩ => ⟨S2x8192x1024, .f32⟩
  | .hbm, ⟨60, _⟩ => ⟨S1024x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S_, .f32⟩
  | .hbm, ⟨66, _⟩ => ⟨S2x8192x1024, .f32⟩
  | .hbm, ⟨67, _⟩ => ⟨S2x8192x1024, .f32⟩
  | .hbm, ⟨68, _⟩ => ⟨S_, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S1024x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S1024x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S1024, .f32⟩
  | .hbm, ⟨82, _⟩ => ⟨S2x8192x1024, .f32⟩
  | .hbm, ⟨83, _⟩ => ⟨S_, .f32⟩
  | .hbm, ⟨84, _⟩ => ⟨S2x8192, .f32⟩
  | .hbm, ⟨85, _⟩ => ⟨S2x8192x1, .f32⟩
  | .hbm, ⟨86, _⟩ => ⟨S_, .f32⟩
  | .hbm, ⟨87, _⟩ => ⟨S2x8192x1, .f32⟩
  | .hbm, ⟨88, _⟩ => ⟨S2x8192x1, .f32⟩
  | .hbm, ⟨89, _⟩ => ⟨S_, .f32⟩
  | .hbm, ⟨90, _⟩ => ⟨S2x8192x1, .f32⟩
  | .hbm, ⟨91, _⟩ => ⟨S2x8192x1, .f32⟩
  | .hbm, ⟨92, _⟩ => ⟨S2x8192x1, .f32⟩
  | .hbm, ⟨93, _⟩ => ⟨S2x8192x1024, .f32⟩
  | .hbm, ⟨94, _⟩ => ⟨S2x8192x1024, .f32⟩
  | .hbm, ⟨95, _⟩ => ⟨S1x1x1024, .f32⟩
  | .hbm, ⟨96, _⟩ => ⟨S2x8192x1024, .f32⟩
  | .hbm, ⟨97, _⟩ => ⟨S2x8192x1024, .f32⟩
  | .hbm, ⟨98, _⟩ => ⟨S_, .f32⟩
  | .hbm, ⟨99, _⟩ => ⟨S2x1x1024, .f32⟩
  | .hbm, ⟨100, _⟩ => ⟨S2x1x1024, .f32⟩
  | .hbm, ⟨101, _⟩ => ⟨S2x8192x1024, .f32⟩
  | .hbm, ⟨102, _⟩ => ⟨S2x8192x1024, .f32⟩
  | .hbm, ⟨103, _⟩ => ⟨S2x8192x1024, .f32⟩
  | .hbm, ⟨104, _⟩ => ⟨S2x8192x1024, .f32⟩
  | .hbm, ⟨105, _⟩ => ⟨S2x8192x1024, .bf16⟩
  | _, _ => ⟨S2x2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Proj.lean ====
abbrev S2x8192x1024 : Shape := ⟨3, ![2, 8192, 1024]⟩
abbrev S8x6x1024 : Shape := ⟨3, ![8, 6, 1024]⟩
abbrev S1x1024 : Shape := ⟨2, ![1, 1024]⟩
abbrev S1x1024x5632 : Shape := ⟨3, ![1, 1024, 5632]⟩
abbrev S1024x5632 : Shape := ⟨2, ![1024, 5632]⟩
abbrev S5632 : Shape := ⟨1, ![5632]⟩
abbrev S_ : Shape := ⟨0, ![]⟩
abbrev S5632x1 : Shape := ⟨2, ![5632, 1]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1024 : Shape := ⟨1, ![1024]⟩
abbrev S2x8192x256 : Shape := ⟨3, ![2, 8192, 256]⟩
abbrev S1x512x1024 : Shape := ⟨3, ![1, 512, 1024]⟩
abbrev S1x6x1024 : Shape := ⟨3, ![1, 6, 1024]⟩
abbrev S512x128 : Shape := ⟨2, ![512, 128]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x1024 : Shape := ⟨2, ![1024, 1024]⟩
abbrev S1x512x128 : Shape := ⟨3, ![1, 512, 128]⟩
abbrev S1024x256 : Shape := ⟨2, ![1024, 256]⟩
abbrev S512x256 : Shape := ⟨2, ![512, 256]⟩

abbrev nBuf : Space → Nat
  | .hbm => 140
  | .vmem => 29
  | .smem => 0
  | _ => 0

abbrev hbmTy0_0 (i : Nat) : BufTy := match i % 128 with
  | 0 => ⟨S2x8192x1024, .f32⟩
  | 1 => ⟨S8x6x1024, .f32⟩
  | 2 => ⟨S1x1024, .f32⟩
  | 3 => ⟨S1x1024x5632, .f32⟩
  | 4 => ⟨S1024x5632, .f32⟩
  | 5 => ⟨S5632, .i32⟩
  | 6 => ⟨S_, .i32⟩
  | 7 => ⟨S_, .i32⟩
  | 8 => ⟨S5632, .i32⟩
  | 9 => ⟨S5632, .i32⟩
  | 10 => ⟨S5632, .i32⟩
  | 11 => ⟨S_, .i32⟩
  | 12 => ⟨S5632, .i32⟩
  | 13 => ⟨S5632, .i1⟩
  | 14 => ⟨S5632, .i32⟩
  | 15 => ⟨S5632, .i32⟩
  | 16 => ⟨S_, .i32⟩
  | 17 => ⟨S5632, .i32⟩
  | 18 => ⟨S5632, .i1⟩
  | 19 => ⟨S5632, .i1⟩
  | 20 => ⟨S_, .i32⟩
  | 21 => ⟨S5632, .i32⟩
  | 22 => ⟨S5632, .i32⟩
  | 23 => ⟨S5632, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S5632, .i32⟩
  | 31 => ⟨S5632, .i32⟩
  | 32 => ⟨S_, .i32⟩
  | 33 => ⟨S5632, .i32⟩
  | 34 => ⟨S5632, .i1⟩
  | 35 => ⟨S_, .i32⟩
  | 36 => ⟨S5632, .i32⟩
  | 37 => ⟨S5632, .i1⟩
  | 38 => ⟨S_, .i32⟩
  | 39 => ⟨S_, .i1⟩
  | 40 => ⟨S5632, .i1⟩
  | 41 => ⟨S5632, .i1⟩
  | 42 => ⟨S5632, .i1⟩
  | 43 => ⟨S5632, .i32⟩
  | 44 => ⟨S5632, .i32⟩
  | 45 => ⟨S5632, .i32⟩
  | 46 => ⟨S_, .i32⟩
  | 47 => ⟨S5632, .i32⟩
  | 48 => ⟨S5632, .i1⟩
  | 49 => ⟨S_, .i32⟩
  | 50 => ⟨S5632, .i32⟩
  | 51 => ⟨S5632, .i1⟩
  | 52 => ⟨S_, .i32⟩
  | 53 => ⟨S_, .i32⟩
  | 54 => ⟨S5632, .i32⟩
  | 55 => ⟨S5632, .i32⟩
  | 56 => ⟨S5632, .i32⟩
  | 57 => ⟨S_, .i32⟩
  | 58 => ⟨S5632, .i32⟩
  | 59 => ⟨S5632, .i32⟩
  | 60 => ⟨S_, .i32⟩
  | 61 => ⟨S5632, .i32⟩
  | 62 => ⟨S5632, .i1⟩
  | 63 => ⟨S_, .i32⟩
  | 64 => ⟨S5632, .i32⟩
  | 65 => ⟨S5632, .i1⟩
  | 66 => ⟨S5632, .i1⟩
  | 67 => ⟨S5632, .i32⟩
  | 68 => ⟨S5632, .i32⟩
  | 69 => ⟨S5632, .i32⟩
  | 70 => ⟨S_, .i32⟩
  | 71 => ⟨S5632, .i32⟩
  | 72 => ⟨S5632, .i1⟩
  | 73 => ⟨S_, .i32⟩
  | 74 => ⟨S5632, .i32⟩
  | 75 => ⟨S5632, .i32⟩
  | 76 => ⟨S5632, .i32⟩
  | 77 => ⟨S5632x1, .i32⟩
  | 78 => ⟨S1024x5632, .f32⟩
  | 79 => ⟨S1024x5632, .bf16⟩
  | 80 => ⟨S128, .i32⟩
  | 81 => ⟨S128x64, .i32⟩
  | 82 => ⟨S8192, .i32⟩
  | 83 => ⟨S64, .i32⟩
  | 84 => ⟨S1x64, .i32⟩
  | 85 => ⟨S128x64, .i32⟩
  | 86 => ⟨S8192, .i32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S8192x1, .i32⟩
  | 102 => ⟨S8192x1, .f32⟩
  | 103 => ⟨S1x32, .f32⟩
  | 104 => ⟨S8192x32, .f32⟩
  | 105 => ⟨S8192x32, .f32⟩
  | 106 => ⟨S8192x32, .f32⟩
  | 107 => ⟨S8192x1, .i32⟩
  | 108 => ⟨S8192x1, .f32⟩
  | 109 => ⟨S1x32, .f32⟩
  | 110 => ⟨S8192x32, .f32⟩
  | 111 => ⟨S8192x32, .f32⟩
  | 112 => ⟨S8192x32, .f32⟩
  | 113 => ⟨S8192x32, .f32⟩
  | 114 => ⟨S8192x32, .f32⟩
  | 115 => ⟨S8192x32, .f32⟩
  | 116 => ⟨S8192x32, .f32⟩
  | 117 => ⟨S8192x128, .f32⟩
  | 118 => ⟨S8192x32, .f32⟩
  | 119 => ⟨S8192x32, .f32⟩
  | 120 => ⟨S8192x32, .f32⟩
  | 121 => ⟨S8192x32, .f32⟩
  | 122 => ⟨S8192x32, .f32⟩
  | 123 => ⟨S8192x32, .f32⟩
  | 124 => ⟨S8192x128, .f32⟩
  | 125 => ⟨S_, .f32⟩
  | 126 => ⟨S8192x128, .f32⟩
  | 127 => ⟨S8192x128, .f32⟩
  | _ => ⟨S2x8192x1024, .f32⟩

abbrev hbmTy0_1 (i : Nat) : BufTy := match i % 128 with
  | 0 => ⟨S_, .f32⟩
  | 1 => ⟨S8192x128, .f32⟩
  | 2 => ⟨S8192x128, .f32⟩
  | 3 => ⟨S1024, .f32⟩
  | 4 => ⟨S1x1024, .f32⟩
  | 5 => ⟨S2x8192x1024, .f32⟩
  | 6 => ⟨S2x8192x1024, .f32⟩
  | 7 => ⟨S2x8192x1024, .bf16⟩
  | 8 => ⟨S2x8192x256, .bf16⟩
  | 9 => ⟨S2x8192x256, .bf16⟩
  | 10 => ⟨S2x8192x1024, .f32⟩
  | 11 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x256, .bf16⟩
  | .local _ .vmem, ⟨24, _⟩ => ⟨S1x512x1024, .f32⟩
  | .local _ .vmem, ⟨25, _⟩ => ⟨S1x512x1024, .f32⟩
  | .local _ .vmem, ⟨26, _⟩ => ⟨S1x512x1024, .f32⟩
  | .local _ .vmem, ⟨27, _⟩ => ⟨S1x512x1024, .f32⟩
  | .local _ .vmem, ⟨28, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_c_1 : Ref sig .tc := ⟨.hbm, 46, rfl⟩
abbrev main_v4 : Ref sig .tc := ⟨.hbm, 47, rfl⟩
abbrev main_v5 : Ref sig .tc := ⟨.hbm, 48, rfl⟩
abbrev main_c_2 : Ref sig .tc := ⟨.hbm, 49, rfl⟩
abbrev main_v6 : Ref sig .tc := ⟨.hbm, 50, rfl⟩
abbrev main_v7 : Ref sig .tc := ⟨.hbm, 51, rfl⟩
abbrev main_c_3 : Ref sig .tc := ⟨.hbm, 52, rfl⟩
abbrev main_c_4 : Ref sig .tc := ⟨.hbm, 53, rfl⟩
abbrev main_call2_v0 : Ref sig .tc := ⟨.hbm, 54, rfl⟩
abbrev main_call2_v1 : Ref sig .tc := ⟨.hbm, 55, rfl⟩
abbrev main_v8 : Ref sig .tc := ⟨.hbm, 56, rfl⟩
abbrev main_c_5 : Ref sig .tc := ⟨.hbm, 57, rfl⟩
abbrev main_call3_v0 : Ref sig .tc := ⟨.hbm, 58, rfl⟩
abbrev main_v9 : Ref sig .tc := ⟨.hbm, 59, rfl⟩
abbrev main_c_6 : Ref sig .tc := ⟨.hbm, 60, rfl⟩
abbrev main_v10 : Ref sig .tc := ⟨.hbm, 61, rfl⟩
abbrev main_v11 : Ref sig .tc := ⟨.hbm, 62, rfl⟩
abbrev main_c_7 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_c_8 : Ref sig .tc := ⟨.hbm, 70, rfl⟩
abbrev main_v18 : Ref sig .tc := ⟨.hbm, 71, rfl⟩
abbrev main_v19 : Ref sig .tc := ⟨.hbm, 72, rfl⟩
abbrev main_c_9 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst : Ref sig .tc := ⟨.hbm, 88, rfl⟩
abbrev main_v34 : Ref sig .tc := ⟨.hbm, 89, rfl⟩
abbrev main_v35 : Ref sig .tc := ⟨.hbm, 90, rfl⟩
abbrev main_cst_10 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_cst_11 : Ref sig .tc := ⟨.hbm, 95, rfl⟩
abbrev main_v39 : Ref sig .tc := ⟨.hbm, 96, rfl⟩
abbrev main_v40 : Ref sig .tc := ⟨.hbm, 97, rfl⟩
abbrev main_cst_12 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_13 : Ref sig .tc := ⟨.hbm, 125, rfl⟩
abbrev main_v67 : Ref sig .tc := ⟨.hbm, 126, rfl⟩
abbrev main_v68 : Ref sig .tc := ⟨.hbm, 127, rfl⟩
abbrev main_cst_14 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73_0 : Ref sig .tc := ⟨.hbm, 133, rfl⟩
abbrev main_v73_1 : Ref sig .tc := ⟨.hbm, 134, rfl⟩
abbrev main_v73_2 : Ref sig .tc := ⟨.hbm, 135, rfl⟩
abbrev main_v73_3 : Ref sig .tc := ⟨.hbm, 136, rfl⟩
abbrev main_v73_4 : Ref sig .tc := ⟨.hbm, 137, rfl⟩
abbrev main_v73_5 : Ref sig .tc := ⟨.hbm, 138, rfl⟩
abbrev main_v73_6 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjRefIdeal.lean ====
abbrev S2x8192x1024 : Shape := ⟨3, ![2, 8192, 1024]⟩
abbrev S8x6x1024 : Shape := ⟨3, ![8, 6, 1024]⟩
abbrev S1x1024 : Shape := ⟨2, ![1, 1024]⟩
abbrev S1x1024x5632 : Shape := ⟨3, ![1, 1024, 5632]⟩
abbrev S2x1x1024 : Shape := ⟨3, ![2, 1, 1024]⟩
abbrev S2x1024 : Shape := ⟨2, ![2, 1024]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x2x32 : Shape := ⟨3, ![8192, 2, 32]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S2x8192x256 : Shape := ⟨3, ![2, 8192, 256]⟩
abbrev S2x8192x8x128 : Shape := ⟨4, ![2, 8192, 8, 128]⟩
abbrev S2x8192x8x2x2x32 : Shape := ⟨6, ![2, 8192, 8, 2, 2, 32]⟩
abbrev S2x8192x8x2x1x32 : Shape := ⟨6, ![2, 8192, 8, 2, 1, 32]⟩
abbrev S2x8192x8x2x32 : Shape := ⟨5, ![2, 8192, 8, 2, 32]⟩
abbrev S1x8192x1x2x32 : Shape := ⟨5, ![1, 8192, 1, 2, 32]⟩
abbrev S2x8192x2x128 : Shape := ⟨4, ![2, 8192, 2, 128]⟩
abbrev S2x8192x2x2x2x32 : Shape := ⟨6, ![2, 8192, 2, 2, 2, 32]⟩
abbrev S2x8192x2x2x1x32 : Shape := ⟨6, ![2, 8192, 2, 2, 1, 32]⟩
abbrev S2x8192x2x2x32 : Shape := ⟨5, ![2, 8192, 2, 2, 32]⟩

abbrev nBuf : Space → Nat
  | .hbm => 149
  | .vmem => 0
  | .smem => 0
  | _ => 0

abbrev hbmTy0_0 (i : Nat) : BufTy := match i % 128 with
  | 0 => ⟨S2x8192x1024, .f32⟩
  | 1 => ⟨S8x6x1024, .f32⟩
  | 2 => ⟨S1x1024, .f32⟩
  | 3 => ⟨S1x1024x5632, .f32⟩
  | 4 => ⟨S2x1x1024, .f32⟩
  | 5 => ⟨S2x1024, .f32⟩
  | 6 => ⟨S2x1x1024, .f32⟩
  | 7 => ⟨S2x1x1024, .f32⟩
  | 8 => ⟨S2x1024, .f32⟩
  | 9 => ⟨S2x1x1024, .f32⟩
  | 10 => ⟨S2x1x1024, .f32⟩
  | 11 => ⟨S2x1024, .f32⟩
  | 12 => ⟨S2x1x1024, .f32⟩
  | 13 => ⟨S2x1x1024, .f32⟩
  | 14 => ⟨S2x1024, .f32⟩
  | 15 => ⟨S2x1x1024, .f32⟩
  | 16 => ⟨S2x1x1024, .f32⟩
  | 17 => ⟨S2x1024, .f32⟩
  | 18 => ⟨S2x1x1024, .f32⟩
  | 19 => ⟨S2x1x1024, .f32⟩
  | 20 => ⟨S2x1024, .f32⟩
  | 21 => ⟨S2x1x1024, .f32⟩
  | 22 => ⟨S128, .i32⟩
  | 23 => ⟨S128x64, .i32⟩
  | 24 => ⟨S8192, .i32⟩
  | 25 => ⟨S64, .i32⟩
  | 26 => ⟨S1x64, .i32⟩
  | 27 => ⟨S128x64, .i32⟩
  | 28 => ⟨S8192, .i32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S8192x1, .i32⟩
  | 44 => ⟨S8192x1, .f32⟩
  | 45 => ⟨S1x32, .f32⟩
  | 46 => ⟨S8192x32, .f32⟩
  | 47 => ⟨S8192x32, .f32⟩
  | 48 => ⟨S8192x32, .f32⟩
  | 49 => ⟨S8192x1, .i32⟩
  | 50 => ⟨S8192x1, .f32⟩
  | 51 => ⟨S1x32, .f32⟩
  | 52 => ⟨S8192x32, .f32⟩
  | 53 => ⟨S8192x32, .f32⟩
  | 54 => ⟨S8192x32, .f32⟩
  | 55 => ⟨S8192x1x32, .f32⟩
  | 56 => ⟨S8192x1x32, .f32⟩
  | 57 => ⟨S8192x2x32, .f32⟩
  | 58 => ⟨S8192x2x32, .f32⟩
  | 59 => ⟨S8192x2x32, .f32⟩
  | 60 => ⟨S1024, .f32⟩
  | 61 => ⟨S2x8192x1024, .f32⟩
  | 62 => ⟨S_, .f32⟩
  | 63 => ⟨S2x8192, .f32⟩
  | 64 => ⟨S2x8192x1, .f32⟩
  | 65 => ⟨S_, .f32⟩
  | 66 => ⟨S2x8192x1, .f32⟩
  | 67 => ⟨S2x8192x1, .f32⟩
  | 68 => ⟨S_, .f32⟩
  | 69 => ⟨S2x8192x1, .f32⟩
  | 70 => ⟨S2x8192x1, .f32⟩
  | 71 => ⟨S2x8192x1, .f32⟩
  | 72 => ⟨S2x8192x1024, .f32⟩
  | 73 => ⟨S2x8192x1024, .f32⟩
  | 74 => ⟨S1x1x1024, .f32⟩
  | 75 => ⟨S2x8192x1024, .f32⟩
  | 76 => ⟨S2x8192x1024, .f32⟩
  | 77 => ⟨S_, .f32⟩
  | 78 => ⟨S2x1x1024, .f32⟩
  | 79 => ⟨S2x1x1024, .f32⟩
  | 80 => ⟨S2x8192x1024, .f32⟩
  | 81 => ⟨S2x8192x1024, .f32⟩
  | 82 => ⟨S2x8192x1024, .f32⟩
  | 83 => ⟨S2x8192x1024, .f32⟩
  | 84 => ⟨S1024x5632, .f32⟩
  | 85 => ⟨S2x8192x5632, .f32⟩
  | 86 => ⟨S2x8192x1024, .f32⟩
  | 87 => ⟨S2x8192x1024, .f32⟩
  | 88 => ⟨S2x8192x1024, .f32⟩
  | 89 => ⟨S2x8192x256, .f32⟩
  | 90 => ⟨S2x8192x256, .f32⟩
  | 91 => ⟨S2x8192x1024, .f32⟩
  | 92 => ⟨S2x8192x1024, .f32⟩
  | 93 => ⟨S2x8192x8x128, .f32⟩
  | 94 => ⟨S2x8192x8x2x2x32, .f32⟩
  | 95 => ⟨S2x8192x8x2x1x32, .f32⟩
  | 96 => ⟨S2x8192x8x2x32, .f32⟩
  | 97 => ⟨S2x8192x8x2x1x32, .f32⟩
  | 98 => ⟨S2x8192x8x2x32, .f32⟩
  | 99 => ⟨S1x8192x1x2x32, .f32⟩
  | 100 => ⟨S1x8192x1x2x32, .f32⟩
  | 101 => ⟨S2x8192x8x2x32, .f32⟩
  | 102 => ⟨S2x8192x8x2x32, .f32⟩
  | 103 => ⟨S2x8192x8x2x32, .f32⟩
  | 104 => ⟨S2x8192x8x2x32, .f32⟩
  | 105 => ⟨S2x8192x8x2x32, .f32⟩
  | 106 => ⟨S2x8192x8x2x32, .f32⟩
  | 107 => ⟨S2x8192x8x2x32, .f32⟩
  | 108 => ⟨S2x8192x8x2x32, .f32⟩
  | 109 => ⟨S2x8192x8x2x32, .f32⟩
  | 110 => ⟨S2x8192x8x2x32, .f32⟩
  | 111 => ⟨S2x8192x8x2x1x32, .f32⟩
  | 112 => ⟨S2x8192x8x2x1x32, .f32⟩
  | 113 => ⟨S2x8192x8x2x2x32, .f32⟩
  | 114 => ⟨S2x8192x8x128, .f32⟩
  | 115 => ⟨S_, .f32⟩
  | 116 => ⟨S2x8192x8x128, .f32⟩
  | 117 => ⟨S2x8192x8x128, .f32⟩
  | 118 => ⟨S2x8192x2x128, .f32⟩
  | 119 => ⟨S2x8192x2x2x2x32, .f32⟩
  | 120 => ⟨S2x8192x2x2x1x32, .f32⟩
  | 121 => ⟨S2x8192x2x2x32, .f32⟩
  | 122 => ⟨S2x8192x2x2x1x32, .f32⟩
  | 123 => ⟨S2x8192x2x2x32, .f32⟩
  | 124 => ⟨S1x8192x1x2x32, .f32⟩
  | 125 => ⟨S1x8192x1x2x32, .f32⟩
  | 126 => ⟨S2x8192x2x2x32, .f32⟩
  | 127 => ⟨S2x8192x2x2x32, .f32⟩
  | _ => ⟨S2x8192x1024, .f32⟩

abbrev hbmTy0_1 (i : Nat) : BufTy := match i % 128 with
  | 0 => ⟨S2x8192x2x2x32, .f32⟩
  | 1 => ⟨S2x8192x2x2x32, .f32⟩
  | 2 => ⟨S2x8192x2x2x32, .f32⟩
  | 3 => ⟨S2x8192x2x2x32, .f32⟩
  | 4 => ⟨S2x8192x2x2x32, .f32⟩
  | 5 => ⟨S2x8192x2x2x32, .f32⟩
  | 6 => ⟨S2x8192x2x2x32, .f32⟩
  | 7 => ⟨S2x8192x2x2x32, .f32⟩
  | 8 => ⟨S2x8192x2x2x1x32, .f32⟩
  | 9 => ⟨S2x8192x2x2x1x32, .f32⟩
  | 10 => ⟨S2x8192x2x2x2x32, .f32⟩
  | 11 => ⟨S2x8192x2x128, .f32⟩
  | 12 => ⟨S2x8192x8x2x2x32, .f32⟩
  | 13 => ⟨S2x8192x8x2x2x32, .f32⟩
  | 14 => ⟨S2x8192x1024, .f32⟩
  | 15 => ⟨S2x8192x2x2x2x32, .f32⟩
  | 16 => ⟨S2x8192x2x2x2x32, .f32⟩
  | 17 => ⟨S2x8192x256, .f32⟩
  | 18 => ⟨S2x8192x1024, .bf16⟩
  | 19 => ⟨S2x8192x256, .bf16⟩
  | 20 => ⟨S2x8192x256, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_3 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_cst_7 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩

abbrev nD : Nat := 1
abbrev τ : Topo := Topo.v7x

variable {F : FTy → Type} [FloatOps F]
-- ==== Proof.AttnFormula.lean ====
/- One softmax over the banded neighbouring keys, the context keys and a sink, for one query and one output channel. Scalars
   only: no program is mentioned. Both the call and the reference are read down to these. -/
module

public import Idealize.ShloMosaic.Lib.Pointwise

@[expose] public section

noncomputable section

namespace Cert.Attention

open Idealize.ShloMosaic

/-- Query `qi` of block `n` sees entry `j` of the three neighbouring key blocks: at most 128 away, and inside the sequence. -/
def Sees (n qi j : ℕ) : Prop := (qi ≤ j ∧ j ≤ qi + 256) ∧ 128 ≤ 128 * n + j ∧ 128 * n + j < 8320

instance (n qi j : ℕ) : Decidable (Sees n qi j) := by unfold Sees; infer_instance

variable (n qi : ℕ) (q : Fin 128 → EReal) (K : Fin 384 → Fin 128 → EReal) (C : Fin 256 → Fin 128 → EReal) (sk : EReal)
  (V : Fin 384 → EReal) (W : Fin 256 → EReal)

/-- The score of neighbouring key `j`, `-∞` where the query does not see it. -/
def near (j : Fin 384) : EReal := if Sees n qi j then ∑ d, q d * K j d else ⊥

/-- The score of context key `c`. -/
def far (c : Fin 256) : EReal := ∑ d, q d * C c d

/-- The largest of all scores and the sink. -/
def peak : EReal :=
  max (max (Finset.univ.fold max ⊥ (near n qi q K)) (Finset.univ.fold max ⊥ (far q C))) sk

/-- The sum of the exponentials. -/
def total : EReal :=
  (∑ j, Ideal.exp (near n qi q K j - peak n qi q K C sk)) + (∑ c, Ideal.exp (far q C c - peak n qi q K C sk))
    + Ideal.exp (sk - peak n qi q K C sk)

/-- The values weighted by the exponentials. -/
def mass : EReal :=
  (∑ j, Ideal.exp (near n qi q K j - peak n qi q K C sk) * V j) + ∑ c, Ideal.exp (far q C c - peak n qi q K C sk) * W c

variable {n qi q K C sk V W}

/-- A key the query does not see has weight zero. -/
theorem weight_unseen (p : EReal) {j : Fin 384} (h : ¬ Sees n qi j) : Ideal.exp (near n qi q K j - p) = 0 := by
  unfold near
  rw [if_neg h, sub_eq_add_neg, EReal.bot_add]
  rfl

variable {K' : Fin 384 → Fin 128 → EReal} {V' : Fin 384 → EReal}

/-- The scores read the keys only where the query sees them. -/
theorem near_congr (hK : ∀ j : Fin 384, Sees n qi j → ∀ d, K j d = K' j d) : near n qi q K = near n qi q K' := by
  funext j
  unfold near
  by_cases h : Sees n qi j
  · rw [if_pos h, if_pos h]
    exact Finset.sum_congr rfl fun d _ => by rw [hK j h d]
  · rw [if_neg h, if_neg h]

/-- So does the largest score, -/
theorem peak_congr (hK : ∀ j : Fin 384, Sees n qi j → ∀ d, K j d = K' j d) : peak n qi q K C sk = peak n qi q K' C sk := by
  unfold peak
  rw [near_congr hK]

/-- the sum of the exponentials, -/
theorem total_congr (hK : ∀ j : Fin 384, Sees n qi j → ∀ d, K j d = K' j d) : total n qi q K C sk = total n qi q K' C sk := by
  unfold total
  rw [near_congr hK, peak_congr hK]

/-- and the weighted values, which read the values only there too. -/
theorem mass_congr (hK : ∀ j : Fin 384, Sees n qi j → ∀ d, K j d = K' j d) (hV : ∀ j : Fin 384, Sees n qi j → V j = V' j) :
    mass n qi q K C sk V W = mass n qi q K' C sk V' W := by
  unfold mass
  rw [near_congr hK, peak_congr hK]
  congr 1
  refine Finset.sum_congr rfl fun j _ => ?_
  by_cases h : Sees n qi j
  · rw [hV j h]
  · rw [weight_unseen _ h, zero_mul, zero_mul]

/-- A fold of maxima of numbers below `+∞` stays below `+∞`. -/
theorem fold_lt_top {ι : Type} [Fintype ι] (f : ι → EReal) (h : ∀ i, f i < ⊤) : Finset.univ.fold max ⊥ f < ⊤ := by
  rw [Finset.fold_max_lt]
  exact ⟨bot_lt_top, fun i _ => h i⟩

/-- A finite sum of numbers below `+∞` stays below `+∞`. -/
theorem sum_lt_top {ι : Type} (s : Finset ι) (f : ι → EReal) (h : ∀ i, f i < ⊤) : ∑ i ∈ s, f i < ⊤ := by
  classical
  induction s using Finset.induction_on with
  | empty => simp
  | insert a s ha ih =>
    rw [Finset.sum_insert ha]
    exact EReal.add_lt_top (h a).ne ih.ne

/-- A product of two finite numbers is below `+∞`. -/
theorem mul_lt_top {a b : EReal} (ha : a ≠ ⊤ ∧ a ≠ ⊥) (hb : b ≠ ⊤ ∧ b ≠ ⊥) : a * b < ⊤ := by
  lift a to ℝ using ha
  lift b to ℝ using hb
  rw [← EReal.coe_mul]
  exact EReal.coe_lt_top _

/-- An exponential is never negative. -/
theorem exp_nonneg (x : EReal) : 0 ≤ Ideal.exp x := by
  induction x with
  | bot => exact le_refl _
  | top => exact le_top
  | coe r => exact EReal.coe_nonneg.2 (Real.exp_pos r).le

/-- With finite queries, keys, context keys and sink the sum of the exponentials is positive: the sink's own is. -/
theorem total_ne_zero (hs : sk ≠ ⊤ ∧ sk ≠ ⊥) (hq : ∀ d, q d ≠ ⊤ ∧ q d ≠ ⊥) (hK : ∀ j d, K j d ≠ ⊤ ∧ K j d ≠ ⊥)
    (hC : ∀ c d, C c d ≠ ⊤ ∧ C c d ≠ ⊥) : total n qi q K C sk ≠ 0 := by
  have hp : peak n qi q K C sk < ⊤ := by
    unfold peak
    refine max_lt (max_lt (fold_lt_top _ fun j => ?_) (fold_lt_top _ fun c => ?_)) (lt_top_iff_ne_top.2 hs.1)
    · unfold near
      split
      · exact sum_lt_top _ _ fun d => mul_lt_top (hq d) (hK j d)
      · exact bot_lt_top
    · exact sum_lt_top _ _ fun d => mul_lt_top (hq d) (hC c d)
  have hb : peak n qi q K C sk ≠ ⊥ := fun h => hs.2 (le_bot_iff.1 (h ▸ le_max_right _ _))
  have hpos : 0 < Ideal.exp (sk - peak n qi q K C sk) := by
    generalize peak n qi q K C sk = p at hp hb
    lift p to ℝ using ⟨hp.ne, hb⟩
    lift sk to ℝ using hs
    rw [← EReal.coe_sub]
    exact EReal.coe_pos.2 (Real.exp_pos _)
  unfold total
  refine (lt_of_lt_of_le hpos ?_).ne'
  exact le_add_of_nonneg_left (add_nonneg (Finset.sum_nonneg fun j _ => exp_nonneg _) (Finset.sum_nonneg fun c _ => exp_nonneg _))

/-- Multiplying by the reciprocal is dividing, away from a zero divisor. -/
theorem mul_div_one (x : EReal) {y : EReal} (hy : y ≠ 0) : x * Ideal.div 1 y = Ideal.div x y := by
  unfold Ideal.div
  rw [if_neg hy, if_neg hy, one_mul]

/-- The position of neighbouring key `j` of block `n`: 128 before the block on, kept inside the sequence. -/
def keyAt (n j : ℕ) : Fin 8192 := ⟨min (128 * n + j - 128) 8191, by omega⟩

section
variable (S : Fin 8 → EReal) (Q : Fin 2 → Fin 8192 → Fin 1024 → EReal) (K V : Fin 2 → Fin 8192 → Fin 256 → EReal)
  (Kc Vc : Fin 2 → Fin 256 → Fin 256 → EReal) (b : Fin 2) (l : Fin 8192) (ch : Fin 1024)

/-- The weighted values of batch `b`, query position `l`, output channel `ch`: head `ch / 128`, key head `ch / 512`. -/
def outMass : EReal :=
  mass (l.val / 128) (l.val % 128) (fun e : Fin 128 => Q b l ⟨128 * (ch.val / 128) + e.val, by omega⟩)
    (fun j e => K b (keyAt (l.val / 128) j.val) ⟨128 * (ch.val / 512) + e.val, by omega⟩)
    (fun s e => Kc b s ⟨128 * (ch.val / 512) + e.val, by omega⟩) (S ⟨ch.val / 128, by omega⟩)
    (fun j => V b (keyAt (l.val / 128) j.val) ⟨128 * (ch.val / 512) + ch.val % 128, by omega⟩)
    (fun s => Vc b s ⟨128 * (ch.val / 512) + ch.val % 128, by omega⟩)

/-- The sum of its exponentials. -/
def outTotal : EReal :=
  total (l.val / 128) (l.val % 128) (fun e : Fin 128 => Q b l ⟨128 * (ch.val / 128) + e.val, by omega⟩)
    (fun j e => K b (keyAt (l.val / 128) j.val) ⟨128 * (ch.val / 512) + e.val, by omega⟩)
    (fun s e => Kc b s ⟨128 * (ch.val / 512) + e.val, by omega⟩) (S ⟨ch.val / 128, by omega⟩)

end

end Cert.Attention

end
-- ==== Proof.Words.lean ====
/- The positions' integer words: the comparisons of the mask, read as inequalities between naturals. -/
module

public import proofs.«01_k».proof.Proof.AttnFormula
public import Idealize.ShloMosaic.Lib.WordCmp

@[expose] public section

namespace Cert.Attention

open Idealize.ShloMosaic Idealize.ShloMosaic.WordCmp

/-- The difference of two small words is the difference of their numbers. -/
theorem toInt_sub_small (a b : ℕ) (ha : a < 2 ^ 20) (hb : b < 2 ^ 20) :
    (BitVec.ofNat 32 a - BitVec.ofNat 32 b).toInt = (a : ℤ) - b := by
  rw [BitVec.toInt_sub, toInt_ofNat_of_lt (by omega), toInt_ofNat_of_lt (by omega)]
  exact Int.bmod_eq_of_le (by omega) (by omega)

/-- `ofBool` at an equivalence. -/
theorem ofBool_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem ofBool_congr {p q : Prop} [Decidable p] [Decidable q] (h : p ↔ q) : BitVec.ofBool (decide p) = BitVec.ofBool (decide q) := by
  simp only [h]

/-- The band's two comparisons. -/
theorem word_band (a j : ℕ) (ha : a < 128) (hj : j < 384) :
    IntOp.andi (IntOp.cmpi .sge (BitVec.ofNat 32 j - BitVec.ofNat 32 a) 0#32)
      (IntOp.cmpi .sle (BitVec.ofNat 32 j - BitVec.ofNat 32 a) 256#32) = BitVec.ofBool (decide (a ≤ j ∧ j ≤ a + 256)) := by
  rw [cmpi_sge_eq, cmpi_sle_eq, toInt_sub_small _ _ (by omega) (by omega), ofBool_and]
  refine ofBool_congr ?_
  rw [show (0#32).toInt = 0 from rfl, show (256#32).toInt = 256 from rfl]
  omega

/-- The band, spelt as a distance. -/
theorem word_distance (n a j : ℕ) (hn : n < 64) (ha : a < 128) (hj : j < 384) :
    IntOp.cmpi .sle (IntOp.absi (BitVec.ofNat 32 (128 * n + j) - 128#32 - BitVec.ofNat 32 (128 * n + a))) 128#32
      = BitVec.ofBool (decide (a ≤ j ∧ j ≤ a + 256)) := by
  have e : BitVec.ofNat 32 (128 * n + j) - 128#32 - BitVec.ofNat 32 (128 * n + a) = BitVec.ofNat 32 j - BitVec.ofNat 32 (128 + a) := by
    rw [BitVec.ofNat_add, BitVec.ofNat_add, BitVec.ofNat_add 128 a]
    generalize BitVec.ofNat 32 (128 * n) = x
    generalize BitVec.ofNat 32 j = y
    generalize BitVec.ofNat 32 a = z
    bv_omega
  have d := toInt_sub_small j (128 + a) (by omega) (by omega)
  rw [e]
  generalize BitVec.ofNat 32 j - BitVec.ofNat 32 (128 + a) = w at d
  rw [cmpi_sle_eq]
  refine ofBool_congr ?_
  rw [show (128#32).toInt = 128 from rfl]
  unfold IntOp.absi
  have hm : w.msb = decide (w.toInt < 0) := BitVec.msb_eq_toInt
  by_cases h : w.toInt < 0
  · rw [hm, if_pos (by simpa using h), BitVec.toInt_neg, d, Int.bmod_eq_of_le (by omega) (by omega)]
    omega
  · rw [hm, if_neg (by simpa using h), d]
    omega

/-- The two comparisons of a key's absolute position. -/
theorem word_inside (n j : ℕ) (hn : n < 64) (hj : j < 384) :
    IntOp.cmpi .sge (BitVec.ofNat 32 (128 * n + j) - 128#32) 0#32 = BitVec.ofBool (decide (128 ≤ 128 * n + j))
    ∧ IntOp.cmpi .slt (BitVec.ofNat 32 (128 * n + j) - 128#32) 8192#32 = BitVec.ofBool (decide (128 * n + j < 8320)) := by
  have d := toInt_sub_small (128 * n + j) 128 (by omega) (by omega)
  rw [cmpi_sge_eq, cmpi_slt_eq, d]
  constructor <;> refine ofBool_congr ?_
  · rw [show (0#32).toInt = 0 from rfl]; omega
  · rw [show (8192#32).toInt = 8192 from rfl]; omega

/-- The whole mask. -/
theorem word_sees (n a j : ℕ) :
    IntOp.andi (IntOp.andi (BitVec.ofBool (decide (a ≤ j ∧ j ≤ a + 256))) (BitVec.ofBool (decide (128 ≤ 128 * n + j))))
      (BitVec.ofBool (decide (128 * n + j < 8320))) = BitVec.ofBool (decide (Sees n a j)) := by
  rw [ofBool_and, ofBool_and]
  refine ofBool_congr ?_
  unfold Sees
  tauto

/-- A choice at such a word is the choice at the proposition. -/
theorem select_ofBool {α : Type} (p : Prop) [Decidable p] (x y : α) :
    Scalar.select (BitVec.ofBool (decide p)) x y = if p then x else y := by
  by_cases h : p <;> simp [h, Scalar.select]

end Cert.Attention
-- ==== Proof.AttnUnit.lean ====
/- One unit of the attention call: a block of 128 queries of the four heads sharing a key head, stacked to 512 rows. -/
module

public import proofs.«01_k».proof.Proof.Gen.AttnIdeal.Value
public import proofs.«01_k».proof.Proof.Words
public import Idealize.ShloMosaic.Lib.Pipeline.ValueKit
public import Idealize.ShloMosaic.Lib.Pointwise
public import Idealize.ShloMosaic.Lib.Claim

@[expose] public section

set_option maxRecDepth 16384

noncomputable section

namespace Cert.AttnIdeal.Call

open Idealize.ShloMosaic Idealize.ShloMosaic.TcCoe Idealize.SL.Sem
open Cert.AttnIdeal Cert.AttnIdeal.Gen

/-- The mask of a unit: the band, and the key's absolute position inside the sequence. -/
abbrev maskOf (i1 J : BitVec 32) : IVec S512x384 1 :=
  andi (andi k0_pay8
    (cmpi .sge (addi (broadcast S512x384 (Scalar.muli (Scalar.subi (Scalar.addi (Scalar.muli i1 4#32) J) 1#32) 128#32))
      (iota .tc S512x384 32 [1] iota_S512x384_d1_w32)) (broadcast S512x384 0#32)))
    (cmpi .slt (addi (broadcast S512x384 (Scalar.muli (Scalar.subi (Scalar.addi (Scalar.muli i1 4#32) J) 1#32) 128#32))
      (iota .tc S512x384 32 [1] iota_S512x384_d1_w32)) (broadcast S512x384 8192#32))

/-- The scores against the 384 neighbouring keys. -/
abbrev locS (mask : IVec S512x384 1) (q4 : FVec Ideal S512x128 .bf16) (kk : FVec Ideal S384x128 .bf16) : FVec Ideal S512x384 .f32 :=
  select mask (matmul dot_S512x128_S384x128_S512x384_1_1_0_0_n_n none q4 kk (constant S512x384 .f32 0x00000000#32))
    (broadcast S512x384 (Named.named κ "mask" 0xF149F2CA#32 : Ideal .f32))

/-- The scores against the 256 context keys. -/
abbrev ctxS (q4 : FVec Ideal S512x128 .bf16) (kc : FVec Ideal S1x256x128 .bf16) : FVec Ideal S512x256 .f32 :=
  matmul dot_S512x128_S256x128_S512x256_1_1_0_0_n_n none q4 (shapeCast S256x128 kc shapeCasts_S1x256x128_S256x128)
    (constant S512x256 .f32 0x00000000#32)

/-- The largest score of each row. -/
abbrev rowM (sl : FVec Ideal S512x384 .f32) (sc : FVec Ideal S512x256 .f32) (sk : FVec Ideal S512x1 .f32) : FVec Ideal S512x1 .f32 :=
  maximumf (maximumf
    (shapeCast S512x1 (multiReduction .maximumf [1] S512 sl 0xFF800000#32 reduces_S512x384_S512 (.inl rfl) rfl) shapeCasts_S512_S512x1)
    (shapeCast S512x1 (multiReduction .maximumf [1] S512 sc 0xFF800000#32 reduces_S512x256_S512 (.inl rfl) rfl) shapeCasts_S512_S512x1)) sk

/-- The exponentials' sum of each row. -/
abbrev rowD (pl : FVec Ideal S512x384 .f32) (pc : FVec Ideal S512x256 .f32) (ps : FVec Ideal S512x1 .f32) : FVec Ideal S512x1 .f32 :=
  addf (addf
    (shapeCast S512x1 (multiReduction .add [1] S512 pl 0x00000000#32 reduces_S512x384_S512 (.inl rfl) rfl) shapeCasts_S512_S512x1)
    (shapeCast S512x1 (multiReduction .add [1] S512 pc 0x00000000#32 reduces_S512x256_S512 (.inl rfl) rfl) shapeCasts_S512_S512x1)) ps

/-- A unit's 512 rows from its mask, queries, sinks, keys and values. -/
abbrev unit (mask : IVec S512x384 1) (q4 : FVec Ideal S512x128 .bf16) (sk : FVec Ideal S512x1 .f32) (kk : FVec Ideal S384x128 .bf16)
    (kc : FVec Ideal S1x256x128 .bf16) (vv : FVec Ideal S384x128 .bf16) (vc : FVec Ideal S1x256x128 .bf16) : FVec Ideal S512x128 .f32 :=
  mulf
    (addf
      (matmul dot_S512x384_S384x128_S512x128_1_0_0_1_n_n none
        (truncf .bf16 (exp (subf (locS mask q4 kk) (broadcastTo S512x384 (rowM (locS mask q4 kk) (ctxS q4 kc) sk) broadcasts_S512x1_S512x384)))
          bitsLt_bf16_f32) vv (constant S512x128 .f32 0x00000000#32))
      (matmul dot_S512x256_S256x128_S512x128_1_0_0_1_n_n none
        (truncf .bf16 (exp (subf (ctxS q4 kc) (broadcastTo S512x256 (rowM (locS mask q4 kk) (ctxS q4 kc) sk) broadcasts_S512x1_S512x256)))
          bitsLt_bf16_f32) (shapeCast S256x128 vc shapeCasts_S1x256x128_S256x128) (constant S512x128 .f32 0x00000000#32)))
    (broadcastTo S512x128
      (divf (broadcast S512x1 (Scalar.ofBits .f32 0x3F800000#32 : Ideal .f32))
        (rowD (exp (subf (locS mask q4 kk) (broadcastTo S512x384 (rowM (locS mask q4 kk) (ctxS q4 kc) sk) broadcasts_S512x1_S512x384)))
          (exp (subf (ctxS q4 kc) (broadcastTo S512x256 (rowM (locS mask q4 kk) (ctxS q4 kc) sk) broadcasts_S512x1_S512x256)))
          (exp (subf sk (rowM (locS mask q4 kk) (ctxS q4 kc) sk)))))
      broadcasts_S512x1_S512x128)

/-- The word of `-∞`. -/
theorem word_bot : Ideal.ofBits .f32 0xFF800000#32 = ⊥ := by
  simp [Ideal.ofBits, Ideal.ieee]

/-- The value the named mask stands for. -/
theorem named_bot : (Named.named κ "mask" 0xF149F2CA#32 : Ideal .f32) = (⊥ : EReal) := rfl

/-- An entry of a unit is the softmax of its row, where the mask is the words of what the row's query sees. -/
theorem unit_apply (mask : IVec S512x384 1) (q4 : FVec Ideal S512x128 .bf16) (sk : FVec Ideal S512x1 .f32) (kk : FVec Ideal S384x128 .bf16)
    (kc : FVec Ideal S1x256x128 .bf16) (vv : FVec Ideal S384x128 .bf16) (vc : FVec Ideal S1x256x128 .bf16) (r : Fin 512) (d : Fin 128)
    (n a : ℕ) (hm : ∀ j : Fin 384, mask (ix2 r j) = BitVec.ofBool (decide (Attention.Sees n a j))) :
    unit mask q4 sk kk kc vv vc (ix2 r d)
      = Attention.mass n a (fun e => q4 (ix2 r e)) (fun j e => kk (ix2 j e)) (fun s e => kc (ix3 0 s e)) (sk (ix2 r 0))
          (fun j => vv (ix2 j d)) (fun s => vc (ix3 0 s d))
        * Ideal.div 1 (Attention.total n a (fun e => q4 (ix2 r e)) (fun j e => kk (ix2 j e)) (fun s e => kc (ix3 0 s e)) (sk (ix2 r 0))) := by
  pointwise [unit, rowD, rowM, ctxS, locS]
  simp only [hm, Attention.select_ofBool, word_bot, named_bot]
  rfl

/-- The row's place in its block as the call computes it: a remainder at 128, kept nonnegative. -/
def rowWord (w : BitVec 32) : BitVec 32 :=
  Scalar.select
    (IntOp.andi
      (IntOp.xori
        (IntOp.cmpi .slt (IntOp.remsi .vector w (Scalar.select (Scalar.cmpi .eq 128#32 0#32) 1#32 128#32)) 0#32)
        (Scalar.cmpi .slt (Scalar.select (Scalar.cmpi .eq 128#32 0#32) 1#32 128#32) 0#32))
      (IntOp.cmpi .ne (IntOp.remsi .vector w (Scalar.select (Scalar.cmpi .eq 128#32 0#32) 1#32 128#32)) 0#32))
    (IntOp.addi (IntOp.remsi .vector w (Scalar.select (Scalar.cmpi .eq 128#32 0#32) 1#32 128#32))
      (Scalar.select (Scalar.cmpi .eq 128#32 0#32) 1#32 128#32))
    (IntOp.remsi .vector w (Scalar.select (Scalar.cmpi .eq 128#32 0#32) 1#32 128#32))

/-- It is the remainder. -/
theorem rowWord_eq : ∀ r : Fin 512, rowWord (BitVec.ofNat 32 r.val) = BitVec.ofNat 32 (r.val % 128) := by decide +kernel

/-- The word of a block's first neighbouring key: 128 before the block. -/
theorem base_eq : ∀ (i1 : Fin 16) (jq : Fin 4),
    Scalar.muli (Scalar.subi (Scalar.addi (Scalar.muli (BitVec.ofNat 32 i1.val) 4#32) (BitVec.ofNat 32 jq.val)) 1#32) 128#32
      = BitVec.ofNat 32 (128 * (4 * i1.val + jq.val)) - 128#32 := by decide +kernel

/-- The mask is the word of what the row's query sees. -/
theorem maskOf_apply (i1 : Fin 16) (jq : Fin 4) (r : Fin 512) (j : Fin 384) :
    maskOf (BitVec.ofNat 32 i1.val) (BitVec.ofNat 32 jq.val) (ix2 r j)
      = BitVec.ofBool (decide (Attention.Sees (4 * i1.val + jq.val) (r.val % 128) j.val)) := by
  pointwise [maskOf, k0_pay8]
  change IntOp.andi (IntOp.andi (IntOp.andi
      (IntOp.cmpi .sge (BitVec.ofNat 32 j.val - rowWord (BitVec.ofNat 32 r.val)) 0#32)
      (IntOp.cmpi .sle (BitVec.ofNat 32 j.val - rowWord (BitVec.ofNat 32 r.val)) 256#32))
      (IntOp.cmpi .sge (Scalar.muli (Scalar.subi (Scalar.addi (Scalar.muli (BitVec.ofNat 32 i1.val) 4#32) (BitVec.ofNat 32 jq.val)) 1#32) 128#32
        + BitVec.ofNat 32 j.val) 0#32))
      (IntOp.cmpi .slt (Scalar.muli (Scalar.subi (Scalar.addi (Scalar.muli (BitVec.ofNat 32 i1.val) 4#32) (BitVec.ofNat 32 jq.val)) 1#32) 128#32
        + BitVec.ofNat 32 j.val) 8192#32) = _
  have e : BitVec.ofNat 32 (128 * (4 * i1.val + jq.val)) - 128#32 + BitVec.ofNat 32 j.val
      = BitVec.ofNat 32 (128 * (4 * i1.val + jq.val) + j.val) - 128#32 := by
    rw [BitVec.ofNat_add]
    bv_omega
  have hn : 4 * i1.val + jq.val < 64 := by omega
  rw [rowWord_eq, base_eq, e, Attention.word_band _ _ (Nat.mod_lt _ (by decide)) j.isLt, (Attention.word_inside _ _ hn j.isLt).1,
    (Attention.word_inside _ _ hn j.isLt).2, Attention.word_sees]

/-- Three blocks of rows one under another: 128, 512 and 128. -/
def stacked (A B C : ℕ → ℕ → EReal) (R e : ℕ) : EReal :=
  if R < 128 then A R e else if R < 640 then B (R - 128) e else C (R - 640) e

/-- A block of one leading index by naturals, zero outside. -/
def byNat {a b : ℕ} (X : FVec Ideal ⟨3, ![1, a, b]⟩ .bf16) (r e : ℕ) : EReal :=
  if h : r < a ∧ e < b then X (ix3 0 ⟨r, h.1⟩ ⟨e, h.2⟩) else 0

theorem byNat_eq {a b : ℕ} (X : FVec Ideal ⟨3, ![1, a, b]⟩ .bf16) (r : Fin a) (e : Fin b) : X (ix3 0 r e) = byNat X r.val e.val := by
  unfold byNat
  rw [dif_pos ⟨r.isLt, e.isLt⟩]

/-- The scratch holding the neighbouring keys: the block before, the block, the block after. -/
theorem stack_read {sig : RefSig} {κ : Kind} {sp : Space} (v : View sig κ sp S768x256 .bf16) (A C : FVec Ideal S1x128x256 .bf16)
    (B : FVec Ideal S1x512x256 .bf16) (r : Rect S768x256) (x : r.shape.Idx) :
    v.readCov (Val := Elt Ideal) [⟨Rect.unit ![640, 0] ![128, 256] inb_S768x256_S128x256_640_0,
        shapeCast S128x256 (shapeCast S128x256 C shapeCasts_S1x128x256_S128x256) shapeCasts_S128x256_S128x256⟩,
      ⟨Rect.unit ![128, 0] ![512, 256] inb_S768x256_S512x256_128_0,
        shapeCast S512x256 (shapeCast S512x256 B shapeCasts_S1x512x256_S512x256) shapeCasts_S512x256_S512x256⟩,
      ⟨Rect.unit ![0, 0] ![128, 256] inb_S768x256_S128x256_0_0,
        shapeCast S128x256 (shapeCast S128x256 A shapeCasts_S1x128x256_S128x256) shapeCasts_S128x256_S128x256⟩] r.toLoadRect x
      = stacked (byNat A) (byNat B) (byNat C) (r.idx x 0).val (r.idx x 1).val := by
  rw [View.readCov_eq_canon']
  change View.canon _ (r.idx x) = _
  generalize r.idx x = y
  have h0 : (y 0).val < 768 := (y 0).isLt
  have h1 : (y 1).val < 256 := (y 1).isLt
  canon_tiles z h using by
    by_cases h : (y 0).val < 128
    · refine ⟨_, List.mem_cons_of_mem _ (List.mem_cons_of_mem _ List.mem_cons_self), ?_⟩
      exact (Rect.mem_set_unit (inb := inb_S768x256_S128x256_0_0)).2 fun a => match a with | ⟨0, _⟩ => ⟨Nat.zero_le _, h⟩ | ⟨1, _⟩ => ⟨Nat.zero_le _, h1⟩
    · by_cases h' : (y 0).val < 640
      · refine ⟨_, List.mem_cons_of_mem _ List.mem_cons_self, ?_⟩
        exact (Rect.mem_set_unit (inb := inb_S768x256_S512x256_128_0)).2 fun a => match a with | ⟨0, _⟩ => ⟨not_lt.1 h, h'⟩ | ⟨1, _⟩ => ⟨Nat.zero_le _, h1⟩
      · refine ⟨_, List.mem_cons_self, ?_⟩
        exact (Rect.mem_set_unit (inb := inb_S768x256_S128x256_640_0)).2 fun a => match a with | ⟨0, _⟩ => ⟨not_lt.1 h', h0⟩ | ⟨1, _⟩ => ⟨Nat.zero_le _, h1⟩
  all_goals unfold stacked
  case piece0 =>
    refine Eq.trans (b := C (ix3 0 (z 0) (z 1))) (by pointwise) ?_
    refine (byNat_eq (a := 128) (b := 256) C (z 0) (z 1)).trans ?_
    rw [if_neg (by omega), if_neg (by omega), h0, h1, Nat.add_sub_cancel_left]
  case piece1 =>
    refine Eq.trans (b := B (ix3 0 (z 0) (z 1))) (by pointwise) ?_
    refine (byNat_eq (a := 512) (b := 256) B (z 0) (z 1)).trans ?_
    rw [if_neg (by omega), if_pos (by omega), h0, h1, Nat.add_sub_cancel_left]
  case piece2 =>
    refine Eq.trans (b := A (ix3 0 (z 0) (z 1))) (by pointwise) ?_
    refine (byNat_eq (a := 128) (b := 256) A (z 0) (z 1)).trans ?_
    rw [if_pos (by omega), h0, h1]

/-- Four blocks of 128 rows one under another. -/
theorem heads_apply (A : Fin 4 → FVec Ideal S128x128 .bf16) (hh : Fin 4) (a e : Fin 128) :
    concatenate S512x128 0 [⟨S128x128, A 0⟩, ⟨S128x128, A 1⟩, ⟨S128x128, A 2⟩, ⟨S128x128, A 3⟩]
      concatenates_S128x128_S128x128_S128x128_S128x128_S512x128_d0 (ix2 ⟨128 * hh.val + a.val, by omega⟩ e) = A hh (ix2 a e) := by
  fin_cases hh <;> pointwise
  all_goals (repeat' split) <;> first | omega | blk_ext

/-- Four columns of 128 equal entries one under another. -/
theorem sinks_apply (s : Fin 4 → Ideal .f32) (hh : Fin 4) (a : Fin 128) :
    concatenate S512x1 0 [⟨S128x1, broadcast S128x1 (s 0)⟩, ⟨S128x1, broadcast S128x1 (s 1)⟩, ⟨S128x1, broadcast S128x1 (s 2)⟩, ⟨S128x1, broadcast S128x1 (s 3)⟩]
      concatenates_S128x1_S128x1_S128x1_S128x1_S512x1_d0 (ix2 ⟨128 * hh.val + a.val, by omega⟩ 0) = s hh := by
  fin_cases hh <;> pointwise
  all_goals (repeat' split) <;> first | omega | rfl

/-- The rows of one head out of a unit. -/
theorem rows_apply (u : FVec Ideal S512x128 .f32) (hh : Fin 4) (hs : S512x128.Slices ![128 * hh.val, 0] S128x128) (hb) (hc) (x : S1x128x128.Idx) :
    shapeCast S1x128x128 (truncf .bf16 (extractStridedSlice S128x128 ![128 * hh.val, 0] u hs) hb) hc x
      = u (ix2 ⟨128 * hh.val + (x 1).val, by have : (x 1).val < 128 := (x 1).isLt; omega⟩ (x 2)) := by
  idx_vars x
  pointwise

/-- What one head of one block of queries comes to, from the call's nine blocks. -/
def blockOut (S : FVec Ideal S8 .f32) (Q : FVec Ideal S1x512x1024 .bf16) (K : FVec Ideal S1x512x256 .bf16) (Kp Kn : FVec Ideal S1x128x256 .bf16)
    (V : FVec Ideal S1x512x256 .bf16) (Vp Vn : FVec Ideal S1x128x256 .bf16) (Kc Vc : FVec Ideal S1x256x256 .bf16)
    (i1 jq g hh a d : ℕ) : EReal :=
  Attention.mass (4 * i1 + jq) a (fun e => byNat Q (128 * jq + a) (512 * g + 128 * hh + e.val))
      (fun j e => stacked (byNat Kp) (byNat K) (byNat Kn) (128 * jq + j.val) (128 * g + e.val))
      (fun s e => byNat Kc s.val (128 * g + e.val)) (if h : 4 * g + hh < 8 then S (ix1 ⟨4 * g + hh, h⟩) else 0)
      (fun j => stacked (byNat Vp) (byNat V) (byNat Vn) (128 * jq + j.val) (128 * g + d)) (fun s => byNat Vc s.val (128 * g + d))
    * Ideal.div 1 (Attention.total (4 * i1 + jq) a (fun e => byNat Q (128 * jq + a) (512 * g + 128 * hh + e.val))
      (fun j e => stacked (byNat Kp) (byNat K) (byNat Kn) (128 * jq + j.val) (128 * g + e.val))
      (fun s e => byNat Kc s.val (128 * g + e.val)) (if h : 4 * g + hh < 8 then S (ix1 ⟨4 * g + hh, h⟩) else 0))

/-- One head's rows out of a unit, from what the unit's parts read. -/
theorem head_rows (mask : IVec S512x384 1) (A : Fin 4 → FVec Ideal S128x128 .bf16) (s : Fin 4 → Ideal .f32) (kk : FVec Ideal S384x128 .bf16)
    (kc : FVec Ideal S1x256x128 .bf16) (vv : FVec Ideal S384x128 .bf16) (vc : FVec Ideal S1x256x128 .bf16)
    (S : FVec Ideal S8 .f32) (Q : FVec Ideal S1x512x1024 .bf16) (K : FVec Ideal S1x512x256 .bf16) (Kp Kn : FVec Ideal S1x128x256 .bf16)
    (V : FVec Ideal S1x512x256 .bf16) (Vp Vn : FVec Ideal S1x128x256 .bf16) (Kc Vc : FVec Ideal S1x256x256 .bf16)
    (i1 : Fin 16) (jq : Fin 4) (g : Fin 2) (hh : Fin 4) (hs : S512x128.Slices ![128 * hh.val, 0] S128x128) (hb) (hc) (x : S1x128x128.Idx)
    (hm : mask = maskOf (BitVec.ofNat 32 i1.val) (BitVec.ofNat 32 jq.val))
    (hA : ∀ hh a e, A hh (ix2 a e) = byNat Q (128 * jq.val + a.val) (512 * g.val + 128 * hh.val + e.val))
    (hS : ∀ hh : Fin 4, s hh = S (ix1 ⟨4 * g.val + hh.val, by omega⟩))
    (hk : ∀ j e, kk (ix2 j e) = stacked (byNat Kp) (byNat K) (byNat Kn) (128 * jq.val + j.val) (128 * g.val + e.val))
    (hkc : ∀ r e, kc (ix3 0 r e) = byNat Kc r.val (128 * g.val + e.val))
    (hv : ∀ j e, vv (ix2 j e) = stacked (byNat Vp) (byNat V) (byNat Vn) (128 * jq.val + j.val) (128 * g.val + e.val))
    (hvc : ∀ r e, vc (ix3 0 r e) = byNat Vc r.val (128 * g.val + e.val)) :
    shapeCast S1x128x128 (truncf .bf16 (extractStridedSlice S128x128 ![128 * hh.val, 0]
      (unit mask (concatenate S512x128 0 [⟨S128x128, A 0⟩, ⟨S128x128, A 1⟩, ⟨S128x128, A 2⟩, ⟨S128x128, A 3⟩]
          concatenates_S128x128_S128x128_S128x128_S128x128_S512x128_d0)
        (concatenate S512x1 0 [⟨S128x1, broadcast S128x1 (s 0)⟩, ⟨S128x1, broadcast S128x1 (s 1)⟩, ⟨S128x1, broadcast S128x1 (s 2)⟩, ⟨S128x1, broadcast S128x1 (s 3)⟩]
          concatenates_S128x1_S128x1_S128x1_S128x1_S512x1_d0) kk kc vv vc) hs) hb) hc x
      = blockOut S Q K Kp Kn V Vp Vn Kc Vc i1.val jq.val g.val hh.val (x 1).val (x 2).val := by
  have hx : (x 1).val < 128 := (x 1).isLt
  refine (rows_apply _ hh hs hb hc x).trans ?_
  refine (unit_apply _ _ _ _ _ _ _ ⟨128 * hh.val + (x 1).val, by omega⟩ (x 2) (4 * i1.val + jq.val) (x 1).val
    (by rw [hm]; intro j; rw [maskOf_apply, show (128 * hh.val + (x 1).val) % 128 = (x 1).val by omega])).trans ?_
  have h8 : 4 * g.val + hh.val < 8 := by omega
  unfold blockOut
  rw [dif_pos h8, ← hS]
  have e1 : ∀ e : Fin 128, concatenate S512x128 0 [⟨S128x128, A 0⟩, ⟨S128x128, A 1⟩, ⟨S128x128, A 2⟩, ⟨S128x128, A 3⟩]
      concatenates_S128x128_S128x128_S128x128_S128x128_S512x128_d0 (ix2 ⟨128 * hh.val + (x 1).val, by omega⟩ e)
      = byNat Q (128 * jq.val + (x 1).val) (512 * g.val + 128 * hh.val + e.val) :=
    fun e => (heads_apply A hh (x 1) e).trans (hA hh (x 1) e)
  have e2 := sinks_apply s hh (x 1)
  simp only [e1, hk, hkc]
  rw [e2]
  congr 1
  exact congrArg₂ (Attention.mass _ _ _ _ _ _) (funext fun j => hv j (x 2)) (funext fun r => hvc r (x 2))

end Cert.AttnIdeal.Call

end
-- ==== Proof.AttnBlock.lean ====
/- One head's rows of one block of queries as the attention call stores them. -/
module

public import proofs.«01_k».proof.Proof.AttnUnit

@[expose] public section

set_option maxRecDepth 16384

noncomputable section

namespace Cert.AttnIdeal.Call

open Idealize.ShloMosaic Idealize.ShloMosaic.TcCoe Idealize.SL.Sem
open Cert.AttnIdeal Cert.AttnIdeal.Gen

/-- A load of a box out of a block. -/
theorem ld_byNat {a b ra rb : ℕ} (X : FVec Ideal ⟨3, ![1, a, b]⟩ .bf16) (o p : ℕ) (inb) (r : Fin ra) (e : Fin rb) :
    View.ld (Val := Elt Ideal) (e' := EltTy.bf16) X (Rect.unit (s := ⟨3, ![1, a, b]⟩) ![0, o, p] ![1, ra, rb] inb) (ix3 0 r e) = byNat X (o + r.val) (p + e.val) := by
  have h1 : o + ra ≤ a := inb 1
  have h2 : p + rb ≤ b := inb 2
  refine (View.ld_unit_apply_of (Val := Elt Ideal) (e := EltTy.bf16) (S := ⟨3, ![1, a, b]⟩) X _ _ inb _ (ix3 0 ⟨o + r.val, by omega⟩ ⟨p + e.val, by omega⟩) fun k => ?_).trans (byNat_eq X _ _)
  match k with
  | ⟨0, _⟩ => rfl
  | ⟨1, _⟩ => rfl
  | ⟨2, _⟩ => rfl

/-- The scratch of neighbours as the load sees it. -/
abbrev loadStack (v : View sig .tc .vmem S768x256 .bf16) (A C : FVec Ideal S1x128x256 .bf16) (B : FVec Ideal S1x512x256 .bf16) (o p : ℕ)
    (inb : ∀ a, ![o, p] a + ![384, 128] a ≤ S768x256.size a) : FVec Ideal S384x128 .bf16 :=
  v.readCov (Val := Elt Ideal) [⟨Rect.unit ![640, 0] ![128, 256] inb_S768x256_S128x256_640_0,
        shapeCast S128x256 (shapeCast S128x256 C shapeCasts_S1x128x256_S128x256) shapeCasts_S128x256_S128x256⟩,
      ⟨Rect.unit ![128, 0] ![512, 256] inb_S768x256_S512x256_128_0,
        shapeCast S512x256 (shapeCast S512x256 B shapeCasts_S1x512x256_S512x256) shapeCasts_S512x256_S512x256⟩,
      ⟨Rect.unit ![0, 0] ![128, 256] inb_S768x256_S128x256_0_0,
        shapeCast S128x256 (shapeCast S128x256 A shapeCasts_S1x128x256_S128x256) shapeCasts_S128x256_S128x256⟩] (Rect.unit (s := S768x256) ![o, p] ![384, 128] inb).toLoadRect

/-- Its entries. -/
theorem loadStack_apply (v : View sig .tc .vmem S768x256 .bf16) (A C : FVec Ideal S1x128x256 .bf16) (B : FVec Ideal S1x512x256 .bf16) (o p : ℕ) (inb)
    (j : Fin 384) (e : Fin 128) : loadStack v A C B o p inb (ix2 j e) = stacked (byNat A) (byNat B) (byNat C) (o + j.val) (p + e.val) := by
  refine (stack_read v A C B (Rect.unit (s := S768x256) ![o, p] ![384, 128] inb) (ix2 j e)).trans ?_
  rw [Rect.idx_unit_val, Rect.idx_unit_val]
  rfl

/-- A leading index of size one dropped. -/
theorem cast_head (Y : FVec Ideal S1x128x128 .bf16) (a e : Fin 128) : shapeCast S128x128 Y shapeCasts_S1x128x128_S128x128 (ix2 a e) = Y (ix3 0 a e) := by
  pointwise

/-- One head's rows, from the nine blocks. -/
theorem piece (vk vv : View sig .tc .vmem S768x256 .bf16) (S : FVec Ideal S8 .f32) (Q : FVec Ideal S1x512x1024 .bf16) (K : FVec Ideal S1x512x256 .bf16) (Kp Kn : FVec Ideal S1x128x256 .bf16)
    (V : FVec Ideal S1x512x256 .bf16) (Vp Vn : FVec Ideal S1x128x256 .bf16) (Kc Vc : FVec Ideal S1x256x256 .bf16)
    (i1 : Fin 16) (jq : Fin 4) (g : Fin 2) (hh : Fin 4) (hs : S512x128.Slices ![128 * hh.val, 0] S128x128) (hb) (hc) (x : S1x128x128.Idx)
    (hq : ∀ (hh : Fin 4) (a : Fin 3), ![0, 128 * jq.val, 512 * g.val + 128 * hh.val] a + ![1, 128, 128] a ≤ S1x512x1024.size a)
    (hss : ∀ (hh : Fin 4) (a : Fin 1), ![4 * g.val + hh.val] a + ![1] a ≤ S8.size a)
    (hkv : ∀ a : Fin 2, ![128 * jq.val, 128 * g.val] a + ![384, 128] a ≤ S768x256.size a)
    (hcc : ∀ a : Fin 3, ![0, 0, 128 * g.val] a + ![1, 256, 128] a ≤ S1x256x256.size a) (hf) :
    shapeCast S1x128x128 (truncf .bf16 (extractStridedSlice S128x128 ![128 * hh.val, 0]
      (unit (maskOf (BitVec.ofNat 32 i1.val) (BitVec.ofNat 32 jq.val))
        (concatenate S512x128 0 [⟨S128x128, shapeCast S128x128 (View.ld (Val := Elt Ideal) (e' := EltTy.bf16) Q (Rect.unit (s := S1x512x1024) ![0, 128 * jq.val, 512 * g.val + 128 * (0 : Fin 4).val] ![1, 128, 128] (hq 0))) shapeCasts_S1x128x128_S128x128⟩,
          ⟨S128x128, shapeCast S128x128 (View.ld (Val := Elt Ideal) (e' := EltTy.bf16) Q (Rect.unit (s := S1x512x1024) ![0, 128 * jq.val, 512 * g.val + 128 * (1 : Fin 4).val] ![1, 128, 128] (hq 1))) shapeCasts_S1x128x128_S128x128⟩,
          ⟨S128x128, shapeCast S128x128 (View.ld (Val := Elt Ideal) (e' := EltTy.bf16) Q (Rect.unit (s := S1x512x1024) ![0, 128 * jq.val, 512 * g.val + 128 * (2 : Fin 4).val] ![1, 128, 128] (hq 2))) shapeCasts_S1x128x128_S128x128⟩,
          ⟨S128x128, shapeCast S128x128 (View.ld (Val := Elt Ideal) (e' := EltTy.bf16) Q (Rect.unit (s := S1x512x1024) ![0, 128 * jq.val, 512 * g.val + 128 * (3 : Fin 4).val] ![1, 128, 128] (hq 3))) shapeCasts_S1x128x128_S128x128⟩]
          concatenates_S128x128_S128x128_S128x128_S128x128_S512x128_d0)
        (concatenate S512x1 0 [⟨S128x1, broadcast S128x1 (View.ld (Val := Elt Ideal) (e' := EltTy.f32) S (Rect.unit (s := S8) ![4 * g.val + (0 : Fin 4).val] ![1] (hss 0)) (Shape.Idx.first hf))⟩,
          ⟨S128x1, broadcast S128x1 (View.ld (Val := Elt Ideal) (e' := EltTy.f32) S (Rect.unit (s := S8) ![4 * g.val + (1 : Fin 4).val] ![1] (hss 1)) (Shape.Idx.first hf))⟩,
          ⟨S128x1, broadcast S128x1 (View.ld (Val := Elt Ideal) (e' := EltTy.f32) S (Rect.unit (s := S8) ![4 * g.val + (2 : Fin 4).val] ![1] (hss 2)) (Shape.Idx.first hf))⟩,
          ⟨S128x1, broadcast S128x1 (View.ld (Val := Elt Ideal) (e' := EltTy.f32) S (Rect.unit (s := S8) ![4 * g.val + (3 : Fin 4).val] ![1] (hss 3)) (Shape.Idx.first hf))⟩]
          concatenates_S128x1_S128x1_S128x1_S128x1_S512x1_d0)
        (loadStack vk Kp Kn K (128 * jq.val) (128 * g.val) hkv)
        (View.ld (Val := Elt Ideal) (e' := EltTy.bf16) Kc (Rect.unit (s := S1x256x256) ![0, 0, 128 * g.val] ![1, 256, 128] hcc))
        (loadStack vv Vp Vn V (128 * jq.val) (128 * g.val) hkv)
        (View.ld (Val := Elt Ideal) (e' := EltTy.bf16) Vc (Rect.unit (s := S1x256x256) ![0, 0, 128 * g.val] ![1, 256, 128] hcc))) hs) hb) hc x
      = blockOut S Q K Kp Kn V Vp Vn Kc Vc i1.val jq.val g.val hh.val (x 1).val (x 2).val := by
  refine head_rows _ (fun hh => shapeCast S128x128 (View.ld (Val := Elt Ideal) (e' := EltTy.bf16) Q (Rect.unit (s := S1x512x1024) ![0, 128 * jq.val, 512 * g.val + 128 * hh.val] ![1, 128, 128] (hq hh))) shapeCasts_S1x128x128_S128x128)
    (fun hh => View.ld (Val := Elt Ideal) (e' := EltTy.f32) S (Rect.unit (s := S8) ![4 * g.val + hh.val] ![1] (hss hh)) (Shape.Idx.first hf)) _ _ _ _ S Q K Kp Kn V Vp Vn Kc Vc i1 jq g hh hs hb hc x rfl
    (fun hh a e => ?_) (fun hh => ?_) (fun j e => loadStack_apply vk Kp Kn K _ _ hkv j e) (fun r e => ?_)
    (fun j e => loadStack_apply vv Vp Vn V _ _ hkv j e) (fun r e => ?_)
  · exact (cast_head _ a e).trans (ld_byNat Q _ _ (hq hh) a e)
  · refine View.ld_unit_apply_of (Val := Elt Ideal) (e := EltTy.f32) (S := S8) S _ _ (hss hh) _ (ix1 ⟨4 * g.val + hh.val, by omega⟩) fun k => ?_
    match k with
    | ⟨0, _⟩ => rfl
  · refine (ld_byNat Kc _ _ hcc r e).trans ?_
    rw [Nat.zero_add]
  · refine (ld_byNat Vc _ _ hcc r e).trans ?_
    rw [Nat.zero_add]

end Cert.AttnIdeal.Call

end
-- ==== Proof.AttnKernel.lean ====
/- The attention call's whole result, in the formula of one softmax. -/
module

public import proofs.«01_k».proof.Proof.AttnBlock
public import Idealize.ShloMosaic.Lib.Pipeline.ReadBack

@[expose] public section

set_option maxRecDepth 16384

noncomputable section

namespace Cert.AttnIdeal.Call

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)

/-- Where each block of grid point `t` lies: batch `t / 16`, 512 positions from `512·(t mod 16)`, and the blocks of 128 around them. -/
theorem idx : ∀ t : Fin cfg0.N,
    win0_0.index t = ![0] ∧ win0_1.index t = ![t.val / 16, t.val % 16, 0] ∧ win0_2.index t = ![t.val / 16, t.val % 16, 0]
    ∧ win0_3.index t = ![t.val / 16, 4 * (t.val % 16) - 1, 0] ∧ win0_4.index t = ![t.val / 16, min (4 * (t.val % 16) + 4) 63, 0]
    ∧ win0_5.index t = ![t.val / 16, t.val % 16, 0]
    ∧ win0_6.index t = ![t.val / 16, 4 * (t.val % 16) - 1, 0] ∧ win0_7.index t = ![t.val / 16, min (4 * (t.val % 16) + 4) 63, 0]
    ∧ win0_8.index t = ![t.val / 16, 0, 0] ∧ win0_9.index t = ![t.val / 16, 0, 0]
    ∧ win0_10.index t = ![t.val / 16, t.val % 16, 0] ∧ t.val / 16 < 2 ∧ (grid0.coords t 1).val = t.val % 16 :=
  (by decide +kernel : ∀ t : Fin grid0.N, _)

/-- The batch of a grid point. -/
def batch (t : Fin cfg0.N) : Fin 2 := ⟨t.val / 16, (idx t).2.2.2.2.2.2.2.2.2.2.2.1⟩

/-- The queries' block. -/
theorem read1 (c : Dev nD) (t : Fin cfg0.N) (r : Fin 512) (e : Fin 1024) :
    iblk m c 1 t (ix3 0 r e) = m ((c : Thread nD τ).loc main_arg1) (ix3 (batch t) ⟨512 * (t.val % 16) + r.val, by omega⟩ e) := by
  unfold batch
  blk_point [iblk, V, idx t]

/-- The block of keys at the queries' positions. -/
theorem read2 (c : Dev nD) (t : Fin cfg0.N) (r : Fin 512) (e : Fin 256) :
    iblk m c 2 t (ix3 0 r e) = m ((c : Thread nD τ).loc main_arg2) (ix3 (batch t) ⟨512 * (t.val % 16) + r.val, by omega⟩ e) := by
  unfold batch
  blk_point [iblk, V, idx t]

/-- The block of keys before them. -/
theorem read3 (c : Dev nD) (t : Fin cfg0.N) (r : Fin 128) (e : Fin 256) :
    iblk m c 3 t (ix3 0 r e) = m ((c : Thread nD τ).loc main_arg2) (ix3 (batch t) ⟨128 * (4 * (t.val % 16) - 1) + r.val, by omega⟩ e) := by
  unfold batch
  blk_point [iblk, V, idx t]

/-- The block of keys after them. -/
theorem read4 (c : Dev nD) (t : Fin cfg0.N) (r : Fin 128) (e : Fin 256) :
    iblk m c 4 t (ix3 0 r e) = m ((c : Thread nD τ).loc main_arg2) (ix3 (batch t) ⟨128 * min (4 * (t.val % 16) + 4) 63 + r.val, by omega⟩ e) := by
  unfold batch
  blk_point [iblk, V, idx t]

/-- The block of values at the queries' positions. -/
theorem read5 (c : Dev nD) (t : Fin cfg0.N) (r : Fin 512) (e : Fin 256) :
    iblk m c 5 t (ix3 0 r e) = m ((c : Thread nD τ).loc main_arg3) (ix3 (batch t) ⟨512 * (t.val % 16) + r.val, by omega⟩ e) := by
  unfold batch
  blk_point [iblk, V, idx t]

/-- The block of values before them. -/
theorem read6 (c : Dev nD) (t : Fin cfg0.N) (r : Fin 128) (e : Fin 256) :
    iblk m c 6 t (ix3 0 r e) = m ((c : Thread nD τ).loc main_arg3) (ix3 (batch t) ⟨128 * (4 * (t.val % 16) - 1) + r.val, by omega⟩ e) := by
  unfold batch
  blk_point [iblk, V, idx t]

/-- The block of values after them. -/
theorem read7 (c : Dev nD) (t : Fin cfg0.N) (r : Fin 128) (e : Fin 256) :
    iblk m c 7 t (ix3 0 r e) = m ((c : Thread nD τ).loc main_arg3) (ix3 (batch t) ⟨128 * min (4 * (t.val % 16) + 4) 63 + r.val, by omega⟩ e) := by
  unfold batch
  blk_point [iblk, V, idx t]

/-- The context keys. -/
theorem read8 (c : Dev nD) (t : Fin cfg0.N) (r e : Fin 256) :
    iblk m c 8 t (ix3 0 r e) = m ((c : Thread nD τ).loc main_arg4) (ix3 (batch t) r e) := by
  unfold batch
  blk_point [iblk, V, idx t]

/-- The context values. -/
theorem read9 (c : Dev nD) (t : Fin cfg0.N) (r e : Fin 256) :
    iblk m c 9 t (ix3 0 r e) = m ((c : Thread nD τ).loc main_arg5) (ix3 (batch t) r e) := by
  unfold batch
  blk_point [iblk, V, idx t]

/-- The sinks. -/
theorem read0 (c : Dev nD) (t : Fin cfg0.N) (e : Fin 8) :
    iblk m c 0 t (ix1 e) = m ((c : Thread nD τ).loc main_arg0) (ix1 e) := by
  blk_point [iblk, V, idx t]

/-- Three blocks around block `i` of 512 positions, read where the position lies inside the sequence. -/
theorem stacked_seen (X : Fin 8192 → Fin 256 → EReal) (i : ℕ) (hi : i < 16) (A C : FVec Ideal S1x128x256 .bf16) (B : FVec Ideal S1x512x256 .bf16)
    (hB : ∀ (r : Fin 512) e, B (ix3 0 r e) = X ⟨512 * i + r.val, by omega⟩ e)
    (hA : ∀ (r : Fin 128) e, A (ix3 0 r e) = X ⟨128 * (4 * i - 1) + r.val, by omega⟩ e)
    (hC : ∀ (r : Fin 128) e, C (ix3 0 r e) = X ⟨128 * min (4 * i + 4) 63 + r.val, by omega⟩ e)
    (jq : Fin 4) (j : Fin 384) (e : Fin 256) (n : ℕ) (hn : n = 4 * i + jq.val) (h : 128 ≤ 128 * n + j.val ∧ 128 * n + j.val < 8320) :
    stacked (byNat A) (byNat B) (byNat C) (128 * jq.val + j.val) e.val = X (Attention.keyAt n j.val) e := by
  unfold stacked Attention.keyAt
  split_ifs with h1 h2
  · refine (byNat_eq A ⟨128 * jq.val + j.val, h1⟩ e).symm.trans ((hA _ _).trans ?_)
    congr 1
    apply Fin.ext
    simp only
    omega
  · refine (byNat_eq B ⟨128 * jq.val + j.val - 128, by omega⟩ e).symm.trans ((hB _ _).trans ?_)
    congr 1
    apply Fin.ext
    simp only
    omega
  · refine (byNat_eq C ⟨128 * jq.val + j.val - 640, by omega⟩ e).symm.trans ((hC _ _).trans ?_)
    congr 1
    apply Fin.ext
    simp only
    omega

/-- The call's result as a formula over its arguments. -/
def out (c : Dev nD) (b : Fin 2) (l : Fin 8192) (ch : Fin 1024) : EReal :=
  Attention.outMass (fun h => m ((c : Thread nD τ).loc main_arg0) (ix1 h)) (fun b l e => m ((c : Thread nD τ).loc main_arg1) (ix3 b l e))
      (fun b l e => m ((c : Thread nD τ).loc main_arg2) (ix3 b l e)) (fun b l e => m ((c : Thread nD τ).loc main_arg3) (ix3 b l e))
      (fun b l e => m ((c : Thread nD τ).loc main_arg4) (ix3 b l e)) (fun b l e => m ((c : Thread nD τ).loc main_arg5) (ix3 b l e)) b l ch
    * Ideal.div 1 (Attention.outTotal (fun h => m ((c : Thread nD τ).loc main_arg0) (ix1 h)) (fun b l e => m ((c : Thread nD τ).loc main_arg1) (ix3 b l e))
      (fun b l e => m ((c : Thread nD τ).loc main_arg2) (ix3 b l e)) (fun b l e => m ((c : Thread nD τ).loc main_arg4) (ix3 b l e)) b l ch)

/-- One head's rows of one block of queries, placed in the result. -/
theorem block_out (c : Dev nD) (t : Fin cfg0.N) (jq : Fin 4) (g : Fin 2) (hh : Fin 4) (a d : Fin 128) :
    blockOut (iblk m c 0 t) (iblk m c 1 t) (iblk m c 2 t) (iblk m c 3 t) (iblk m c 4 t) (iblk m c 5 t) (iblk m c 6 t) (iblk m c 7 t) (iblk m c 8 t) (iblk m c 9 t)
      (grid0.coords t 1).val jq.val g.val hh.val a.val d.val
    = out m c (batch t) ⟨512 * (t.val % 16) + 128 * jq.val + a.val, by omega⟩ ⟨512 * g.val + 128 * hh.val + d.val, by omega⟩ := by
  have hi : t.val % 16 < 16 := Nat.mod_lt _ (by decide)
  have h8 : 4 * g.val + hh.val < 8 := by omega
  rw [(idx t).2.2.2.2.2.2.2.2.2.2.2.2]
  have en : (512 * (t.val % 16) + 128 * jq.val + a.val) / 128 = 4 * (t.val % 16) + jq.val := by omega
  have ea : (512 * (t.val % 16) + 128 * jq.val + a.val) % 128 = a.val := by omega
  have eh : (512 * g.val + 128 * hh.val + d.val) / 128 = 4 * g.val + hh.val := by omega
  have eg : (512 * g.val + 128 * hh.val + d.val) / 512 = g.val := by omega
  have ed : (512 * g.val + 128 * hh.val + d.val) % 128 = d.val := by omega
  have hQ : (fun e : Fin 128 => byNat (iblk m c 1 t) (128 * jq.val + a.val) (512 * g.val + 128 * hh.val + e.val))
      = fun e : Fin 128 => m ((c : Thread nD τ).loc main_arg1) (ix3 (batch t) ⟨512 * (t.val % 16) + 128 * jq.val + a.val, by omega⟩ ⟨128 * (4 * g.val + hh.val) + e.val, by omega⟩) := by
    funext e
    refine (byNat_eq (a := 512) (b := 1024) (iblk m c 1 t) ⟨128 * jq.val + a.val, by omega⟩ ⟨512 * g.val + 128 * hh.val + e.val, by omega⟩).symm.trans ((read1 m c t _ _).trans ?_)
    blk_ext
  have hK : ∀ j : Fin 384, Attention.Sees (4 * (t.val % 16) + jq.val) a.val j.val → ∀ e : Fin 128,
      stacked (byNat (iblk m c 3 t)) (byNat (iblk m c 2 t)) (byNat (iblk m c 4 t)) (128 * jq.val + j.val) (128 * g.val + e.val)
      = m ((c : Thread nD τ).loc main_arg2) (ix3 (batch t) (Attention.keyAt (4 * (t.val % 16) + jq.val) j.val) ⟨128 * g.val + e.val, by omega⟩) :=
    fun j hj e => stacked_seen (fun l e => m ((c : Thread nD τ).loc main_arg2) (ix3 (batch t) l e)) _ hi _ _ _ (read2 m c t) (read3 m c t) (read4 m c t)
      jq j ⟨128 * g.val + e.val, by omega⟩ _ rfl hj.2
  have hV : ∀ j : Fin 384, Attention.Sees (4 * (t.val % 16) + jq.val) a.val j.val →
      stacked (byNat (iblk m c 6 t)) (byNat (iblk m c 5 t)) (byNat (iblk m c 7 t)) (128 * jq.val + j.val) (128 * g.val + d.val)
      = m ((c : Thread nD τ).loc main_arg3) (ix3 (batch t) (Attention.keyAt (4 * (t.val % 16) + jq.val) j.val) ⟨128 * g.val + d.val, by omega⟩) :=
    fun j hj => stacked_seen (fun l e => m ((c : Thread nD τ).loc main_arg3) (ix3 (batch t) l e)) _ hi _ _ _ (read5 m c t) (read6 m c t) (read7 m c t)
      jq j ⟨128 * g.val + d.val, by omega⟩ _ rfl hj.2
  have hC : (fun (s : Fin 256) (e : Fin 128) => byNat (iblk m c 8 t) s.val (128 * g.val + e.val))
      = fun (s : Fin 256) (e : Fin 128) => m ((c : Thread nD τ).loc main_arg4) (ix3 (batch t) s ⟨128 * g.val + e.val, by omega⟩) := by
    funext s e
    exact (byNat_eq (a := 256) (b := 256) (iblk m c 8 t) s ⟨128 * g.val + e.val, by omega⟩).symm.trans (read8 m c t _ _)
  have hW : (fun s : Fin 256 => byNat (iblk m c 9 t) s.val (128 * g.val + d.val))
      = fun s : Fin 256 => m ((c : Thread nD τ).loc main_arg5) (ix3 (batch t) s ⟨128 * g.val + d.val, by omega⟩) := by
    funext s
    exact (byNat_eq (a := 256) (b := 256) (iblk m c 9 t) s ⟨128 * g.val + d.val, by omega⟩).symm.trans (read9 m c t _ _)
  have hS : iblk m c 0 t (ix1 ⟨4 * g.val + hh.val, h8⟩) = m ((c : Thread nD τ).loc main_arg0) (ix1 ⟨4 * g.val + hh.val, h8⟩) := read0 m c t _
  unfold blockOut out Attention.outMass Attention.outTotal
  simp only [en, ea, eh, eg, ed]
  rw [dif_pos h8, hQ, hC, hW, Attention.mass_congr hK hV, Attention.total_congr hK]
  exact congrArg (fun s => Attention.mass _ _ _ _ _ s _ _ * Ideal.div 1 (Attention.total _ _ _ _ _ s)) hS

/-- The same, at the index the piece is stored to. -/
theorem place (c : Dev nD) (t : Fin cfg0.N) (jq : Fin 4) (g : Fin 2) (hh : Fin 4) (x : S1x128x128.Idx)
    (y : ((cfg0.win 10).xblock (cfg0.grid.coords t)).Idx) (h0 : (y 0).val = (x 0).val) (h1 : (y 1).val = 128 * jq.val + (x 1).val)
    (h2 : (y 2).val = 512 * g.val + 128 * hh.val + (x 2).val) :
    blockOut (iblk m c 0 t) (iblk m c 1 t) (iblk m c 2 t) (iblk m c 3 t) (iblk m c 4 t) (iblk m c 5 t) (iblk m c 6 t) (iblk m c 7 t) (iblk m c 8 t) (iblk m c 9 t)
      (grid0.coords t 1).val jq.val g.val hh.val (x 1).val (x 2).val
    = (fun j : S2x8192x1024.Idx => out m c (j 0) (j 1) (j 2)) (((View.whole main_v0).slice (win0_10.rect t)).emb y) := by
  have hx : (x 0).val < 1 := (x 0).isLt
  refine (block_out m c t jq g hh (x 1) (x 2)).trans ?_
  have e0 : ((((View.whole main_v0).slice (win0_10.rect t)).emb y) 0).val = t.val / 16 := by
    blk_simp [idx t]
  have e1 : ((((View.whole main_v0).slice (win0_10.rect t)).emb y) 1).val = 512 * (t.val % 16) + 128 * jq.val + (x 1).val := by
    blk_simp [idx t]
    omega
  have e2 : ((((View.whole main_v0).slice (win0_10.rect t)).emb y) 2).val = 512 * g.val + 128 * hh.val + (x 2).val := by
    blk_simp [idx t]
    omega
  have a0 : batch t = (((View.whole main_v0).slice (win0_10.rect t)).emb y) 0 := Fin.ext e0.symm
  have a1 : (⟨512 * (t.val % 16) + 128 * jq.val + (x 1).val, by have : (x 1).val < 128 := (x 1).isLt; omega⟩ : Fin 8192) = (((View.whole main_v0).slice (win0_10.rect t)).emb y) 1 := Fin.ext e1.symm
  have a2 : (⟨512 * g.val + 128 * hh.val + (x 2).val, by have : (x 2).val < 128 := (x 2).isLt; omega⟩ : Fin 1024) = (((View.whole main_v0).slice (win0_10.rect t)).emb y) 2 := Fin.ext e2.symm
  exact congr (congrArg₂ (out m c) a0 a1) a2

set_option maxHeartbeats 8000000 in
/-- The result, whole: the 32 stores of each grid point. -/
theorem final (c : Dev nD) : (dats m 0 c).arrAt 10 cfg0.N = fun j : S2x8192x1024.Idx => out m c (j 0) (j 1) (j 2) := by
  refine (dats m 0 c).arrAt_eq_of_covers 10 _ (by decide +kernel) fun t _ y => ?_
  blk_simp
  rw [after0_10]; unfold outsAt0; frame_open
  frame_out
  canon_tiles x h
  all_goals open_payloads
  case piece0 => exact (piece (View.whole cc0_scratch0) (View.whole cc0_scratch1) _ _ _ _ _ _ _ _ _ _ (grid0.coords t 1) 3 1 3 _ _ _ x (by decide) (by decide) (by decide) (by decide) _).trans (place m c t 3 1 3 x y (by first | exact h0 | omega) (by first | exact h1 | simpa using h1) (by first | exact h2 | simpa using h2))
  case piece1 => exact (piece (View.whole cc0_scratch0) (View.whole cc0_scratch1) _ _ _ _ _ _ _ _ _ _ (grid0.coords t 1) 3 1 2 _ _ _ x (by decide) (by decide) (by decide) (by decide) _).trans (place m c t 3 1 2 x y (by first | exact h0 | omega) (by first | exact h1 | simpa using h1) (by first | exact h2 | simpa using h2))
  case piece2 => exact (piece (View.whole cc0_scratch0) (View.whole cc0_scratch1) _ _ _ _ _ _ _ _ _ _ (grid0.coords t 1) 3 1 1 _ _ _ x (by decide) (by decide) (by decide) (by decide) _).trans (place m c t 3 1 1 x y (by first | exact h0 | omega) (by first | exact h1 | simpa using h1) (by first | exact h2 | simpa using h2))
  case piece3 => exact (piece (View.whole cc0_scratch0) (View.whole cc0_scratch1) _ _ _ _ _ _ _ _ _ _ (grid0.coords t 1) 3 1 0 _ _ _ x (by decide) (by decide) (by decide) (by decide) _).trans (place m c t 3 1 0 x y (by first | exact h0 | omega) (by first | exact h1 | simpa using h1) (by first | exact h2 | simpa using h2))
  case piece4 => exact (piece (View.whole cc0_scratch0) (View.whole cc0_scratch1) _ _ _ _ _ _ _ _ _ _ (grid0.coords t 1) 3 0 3 _ _ _ x (by decide) (by decide) (by decide) (by decide) _).trans (place m c t 3 0 3 x y (by first | exact h0 | omega) (by first | exact h1 | simpa using h1) (by first | exact h2 | simpa using h2))
  case piece5 => exact (piece (View.whole cc0_scratch0) (View.whole cc0_scratch1) _ _ _ _ _ _ _ _ _ _ (grid0.coords t 1) 3 0 2 _ _ _ x (by decide) (by decide) (by decide) (by decide) _).trans (place m c t 3 0 2 x y (by first | exact h0 | omega) (by first | exact h1 | simpa using h1) (by first | exact h2 | simpa using h2))
  case piece6 => exact (piece (View.whole cc0_scratch0) (View.whole cc0_scratch1) _ _ _ _ _ _ _ _ _ _ (grid0.coords t 1) 3 0 1 _ _ _ x (by decide) (by decide) (by decide) (by decide) _).trans (place m c t 3 0 1 x y (by first | exact h0 | omega) (by first | exact h1 | simpa using h1) (by first | exact h2 | simpa using h2))
  case piece7 => exact (piece (View.whole cc0_scratch0) (View.whole cc0_scratch1) _ _ _ _ _ _ _ _ _ _ (grid0.coords t 1) 3 0 0 _ _ _ x (by decide) (by decide) (by decide) (by decide) _).trans (place m c t 3 0 0 x y (by first | exact h0 | omega) (by first | exact h1 | simpa using h1) (by first | exact h2 | simpa using h2))
  case piece8 => exact (piece (View.whole cc0_scratch0) (View.whole cc0_scratch1) _ _ _ _ _ _ _ _ _ _ (grid0.coords t 1) 2 1 3 _ _ _ x (by decide) (by decide) (by decide) (by decide) _).trans (place m c t 2 1 3 x y (by first | exact h0 | omega) (by first | exact h1 | simpa using h1) (by first | exact h2 | simpa using h2))
  case piece9 => exact (piece (View.whole cc0_scratch0) (View.whole cc0_scratch1) _ _ _ _ _ _ _ _ _ _ (grid0.coords t 1) 2 1 2 _ _ _ x (by decide) (by decide) (by decide) (by decide) _).trans (place m c t 2 1 2 x y (by first | exact h0 | omega) (by first | exact h1 | simpa using h1) (by first | exact h2 | simpa using h2))
  case piece10 => exact (piece (View.whole cc0_scratch0) (View.whole cc0_scratch1) _ _ _ _ _ _ _ _ _ _ (grid0.coords t 1) 2 1 1 _ _ _ x (by decide) (by decide) (by decide) (by decide) _).trans (place m c t 2 1 1 x y (by first | exact h0 | omega) (by first | exact h1 | simpa using h1) (by first | exact h2 | simpa using h2))
  case piece11 => exact (piece (View.whole cc0_scratch0) (View.whole cc0_scratch1) _ _ _ _ _ _ _ _ _ _ (grid0.coords t 1) 2 1 0 _ _ _ x (by decide) (by decide) (by decide) (by decide) _).trans (place m c t 2 1 0 x y (by first | exact h0 | omega) (by first | exact h1 | simpa using h1) (by first | exact h2 | simpa using h2))
  case piece12 => exact (piece (View.whole cc0_scratch0) (View.whole cc0_scratch1) _ _ _ _ _ _ _ _ _ _ (grid0.coords t 1) 2 0 3 _ _ _ x (by decide) (by decide) (by decide) (by decide) _).trans (place m c t 2 0 3 x y (by first | exact h0 | omega) (by first | exact h1 | simpa using h1) (by first | exact h2 | simpa using h2))
  case piece13 => exact (piece (View.whole cc0_scratch0) (View.whole cc0_scratch1) _ _ _ _ _ _ _ _ _ _ (grid0.coords t 1) 2 0 2 _ _ _ x (by decide) (by decide) (by decide) (by decide) _).trans (place m c t 2 0 2 x y (by first | exact h0 | omega) (by first | exact h1 | simpa using h1) (by first | exact h2 | simpa using h2))
  case piece14 => exact (piece (View.whole cc0_scratch0) (View.whole cc0_scratch1) _ _ _ _ _ _ _ _ _ _ (grid0.coords t 1) 2 0 1 _ _ _ x (by decide) (by decide) (by decide) (by decide) _).trans (place m c t 2 0 1 x y (by first | exact h0 | omega) (by first | exact h1 | simpa using h1) (by first | exact h2 | simpa using h2))
  case piece15 => exact (piece (View.whole cc0_scratch0) (View.whole cc0_scratch1) _ _ _ _ _ _ _ _ _ _ (grid0.coords t 1) 2 0 0 _ _ _ x (by decide) (by decide) (by decide) (by decide) _).trans (place m c t 2 0 0 x y (by first | exact h0 | omega) (by first | exact h1 | simpa using h1) (by first | exact h2 | simpa using h2))
  case piece16 => exact (piece (View.whole cc0_scratch0) (View.whole cc0_scratch1) _ _ _ _ _ _ _ _ _ _ (grid0.coords t 1) 1 1 3 _ _ _ x (by decide) (by decide) (by decide) (by decide) _).trans (place m c t 1 1 3 x y (by first | exact h0 | omega) (by first | exact h1 | simpa using h1) (by first | exact h2 | simpa using h2))
  case piece17 => exact (piece (View.whole cc0_scratch0) (View.whole cc0_scratch1) _ _ _ _ _ _ _ _ _ _ (grid0.coords t 1) 1 1 2 _ _ _ x (by decide) (by decide) (by decide) (by decide) _).trans (place m c t 1 1 2 x y (by first | exact h0 | omega) (by first | exact h1 | simpa using h1) (by first | exact h2 | simpa using h2))
  case piece18 => exact (piece (View.whole cc0_scratch0) (View.whole cc0_scratch1) _ _ _ _ _ _ _ _ _ _ (grid0.coords t 1) 1 1 1 _ _ _ x (by decide) (by decide) (by decide) (by decide) _).trans (place m c t 1 1 1 x y (by first | exact h0 | omega) (by first | exact h1 | simpa using h1) (by first | exact h2 | simpa using h2))
  case piece19 => exact (piece (View.whole cc0_scratch0) (View.whole cc0_scratch1) _ _ _ _ _ _ _ _ _ _ (grid0.coords t 1) 1 1 0 _ _ _ x (by decide) (by decide) (by decide) (by decide) _).trans (place m c t 1 1 0 x y (by first | exact h0 | omega) (by first | exact h1 | simpa using h1) (by first | exact h2 | simpa using h2))
  case piece20 => exact (piece (View.whole cc0_scratch0) (View.whole cc0_scratch1) _ _ _ _ _ _ _ _ _ _ (grid0.coords t 1) 1 0 3 _ _ _ x (by decide) (by decide) (by decide) (by decide) _).trans (place m c t 1 0 3 x y (by first | exact h0 | omega) (by first | exact h1 | simpa using h1) (by first | exact h2 | simpa using h2))
  case piece21 => exact (piece (View.whole cc0_scratch0) (View.whole cc0_scratch1) _ _ _ _ _ _ _ _ _ _ (grid0.coords t 1) 1 0 2 _ _ _ x (by decide) (by decide) (by decide) (by decide) _).trans (place m c t 1 0 2 x y (by first | exact h0 | omega) (by first | exact h1 | simpa using h1) (by first | exact h2 | simpa using h2))
  case piece22 => exact (piece (View.whole cc0_scratch0) (View.whole cc0_scratch1) _ _ _ _ _ _ _ _ _ _ (grid0.coords t 1) 1 0 1 _ _ _ x (by decide) (by decide) (by decide) (by decide) _).trans (place m c t 1 0 1 x y (by first | exact h0 | omega) (by first | exact h1 | simpa using h1) (by first | exact h2 | simpa using h2))
  case piece23 => exact (piece (View.whole cc0_scratch0) (View.whole cc0_scratch1) _ _ _ _ _ _ _ _ _ _ (grid0.coords t 1) 1 0 0 _ _ _ x (by decide) (by decide) (by decide) (by decide) _).trans (place m c t 1 0 0 x y (by first | exact h0 | omega) (by first | exact h1 | simpa using h1) (by first | exact h2 | simpa using h2))
  case piece24 => exact (piece (View.whole cc0_scratch0) (View.whole cc0_scratch1) _ _ _ _ _ _ _ _ _ _ (grid0.coords t 1) 0 1 3 _ _ _ x (by decide) (by decide) (by decide) (by decide) _).trans (place m c t 0 1 3 x y (by first | exact h0 | omega) (by first | exact h1 | simpa using h1) (by first | exact h2 | simpa using h2))
  case piece25 => exact (piece (View.whole cc0_scratch0) (View.whole cc0_scratch1) _ _ _ _ _ _ _ _ _ _ (grid0.coords t 1) 0 1 2 _ _ _ x (by decide) (by decide) (by decide) (by decide) _).trans (place m c t 0 1 2 x y (by first | exact h0 | omega) (by first | exact h1 | simpa using h1) (by first | exact h2 | simpa using h2))
  case piece26 => exact (piece (View.whole cc0_scratch0) (View.whole cc0_scratch1) _ _ _ _ _ _ _ _ _ _ (grid0.coords t 1) 0 1 1 _ _ _ x (by decide) (by decide) (by decide) (by decide) _).trans (place m c t 0 1 1 x y (by first | exact h0 | omega) (by first | exact h1 | simpa using h1) (by first | exact h2 | simpa using h2))
  case piece27 => exact (piece (View.whole cc0_scratch0) (View.whole cc0_scratch1) _ _ _ _ _ _ _ _ _ _ (grid0.coords t 1) 0 1 0 _ _ _ x (by decide) (by decide) (by decide) (by decide) _).trans (place m c t 0 1 0 x y (by first | exact h0 | omega) (by first | exact h1 | simpa using h1) (by first | exact h2 | simpa using h2))
  case piece28 => exact (piece (View.whole cc0_scratch0) (View.whole cc0_scratch1) _ _ _ _ _ _ _ _ _ _ (grid0.coords t 1) 0 0 3 _ _ _ x (by decide) (by decide) (by decide) (by decide) _).trans (place m c t 0 0 3 x y (by first | exact h0 | omega) (by first | exact h1 | simpa using h1) (by first | exact h2 | simpa using h2))
  case piece29 => exact (piece (View.whole cc0_scratch0) (View.whole cc0_scratch1) _ _ _ _ _ _ _ _ _ _ (grid0.coords t 1) 0 0 2 _ _ _ x (by decide) (by decide) (by decide) (by decide) _).trans (place m c t 0 0 2 x y (by first | exact h0 | omega) (by first | exact h1 | simpa using h1) (by first | exact h2 | simpa using h2))
  case piece30 => exact (piece (View.whole cc0_scratch0) (View.whole cc0_scratch1) _ _ _ _ _ _ _ _ _ _ (grid0.coords t 1) 0 0 1 _ _ _ x (by decide) (by decide) (by decide) (by decide) _).trans (place m c t 0 0 1 x y (by first | exact h0 | omega) (by first | exact h1 | simpa using h1) (by first | exact h2 | simpa using h2))
  case piece31 => exact (piece (View.whole cc0_scratch0) (View.whole cc0_scratch1) _ _ _ _ _ _ _ _ _ _ (grid0.coords t 1) 0 0 0 _ _ _ x (by decide) (by decide) (by decide) (by decide) _).trans (place m c t 0 0 0 x y (by first | exact h0 | omega) (by first | exact h1 | simpa using h1) (by first | exact h2 | simpa using h2))

end Cert.AttnIdeal.Call

end
-- ==== Proof.AttnReference.lean ====
/- The attention's reference, read entry by entry. -/
module

public import proofs.«01_k».proof.Proof.Words
public import proofs.«01_k».proof.Proof.Gen.AttnRefIdeal.Read
public import Idealize.ShloMosaic.Lib.Pipeline.ValueKit
public import Idealize.ShloMosaic.Lib.Pointwise
public import Idealize.ShloMosaic.Lib.ValueIdxRank6

@[expose] public section

set_option maxRecDepth 16384

noncomputable section

namespace Cert.AttnRefIdeal.Formula

open Idealize.ShloMosaic Cert.AttnRefIdeal Cert.AttnRefIdeal.Read

variable (x0 : FVec Ideal S8 .f32) (x1 : FVec Ideal S2x8192x1024 .bf16) (x2 x3 : FVec Ideal S2x8192x256 .bf16) (x4 x5 : FVec Ideal S2x256x256 .bf16)

/-- The mask. -/
theorem mask_apply (b : Fin 2) (n : Fin 64) (g : Fin 2) (h : Fin 4) (a : Fin 128) (j : Fin 384) :
    val_main_call2_v1 (F := Ideal) (ix6 b n g h a j) = BitVec.ofBool (decide (Attention.Sees n.val a.val j.val)) := by
  pointwise [val_main_call2_v1, val_main_v54, val_main_v53, val_main_v52, val_main_v51, val_main_v50, val_main_c_6, val_main_v49, val_main_v48, val_main_v47, val_main_v46, val_main_c_5, val_main_v45, val_main_v44, val_main_c_4, val_main_v43, val_main_v42, val_main_v41, val_main_v40, val_main_v39, val_main_v38, val_main_v37, val_main_v36, val_main_v35, val_main_v34, val_main_v33, val_main_c_3, val_main_v32, val_main_v31, val_main_c_2, val_main_v30, val_main_v29, val_main_v28, val_main_v27, val_main_v26, val_main_v25, val_main_v24, val_main_c_1, val_main_v23, val_main_v22]
  change IntOp.andi (IntOp.andi
      (IntOp.cmpi .sle (IntOp.absi ((BitVec.ofNat 32 n.val - 1#32) * 128#32 + BitVec.ofNat 32 j.val - (BitVec.ofNat 32 n.val * 128#32 + BitVec.ofNat 32 a.val))) 128#32)
      (IntOp.cmpi .sge ((BitVec.ofNat 32 n.val - 1#32) * 128#32 + BitVec.ofNat 32 j.val) 0#32))
      (IntOp.cmpi .slt ((BitVec.ofNat 32 n.val - 1#32) * 128#32 + BitVec.ofNat 32 j.val) 8192#32) = _
  have e1 : (BitVec.ofNat 32 n.val - 1#32) * 128#32 + BitVec.ofNat 32 j.val = BitVec.ofNat 32 (128 * n.val + j.val) - 128#32 := by bv_omega
  have e2 : BitVec.ofNat 32 n.val * 128#32 + BitVec.ofNat 32 a.val = BitVec.ofNat 32 (128 * n.val + a.val) := by bv_omega
  rw [e1, e2, Attention.word_distance _ _ _ n.isLt a.isLt j.isLt, (Attention.word_inside _ _ n.isLt j.isLt).1,
    (Attention.word_inside _ _ n.isLt j.isLt).2, Attention.word_sees]

/-- The neighbouring keys, where the position lies inside the sequence. -/
theorem keys_apply (b : Fin 2) (n : Fin 64) (j : Fin 384) (g : Fin 2) (d : Fin 128) (hj : 128 ≤ 128 * n.val + j.val ∧ 128 * n.val + j.val < 8320) :
    val_main_v13 (F := Ideal) x2 (ix5 b n j g d) = x2 (ix3 b (Attention.keyAt n.val j.val) ⟨128 * g.val + d.val, by omega⟩) := by
  unfold Attention.keyAt
  pointwise [val_main_v13, val_main_v12, val_main_v11, val_main_v10, val_main_v9, val_main_v8, val_main_v1]
  split_ifs <;> first | omega | blk_ext

/-- The neighbouring values, where the position lies inside the sequence. -/
theorem values_apply (b : Fin 2) (n : Fin 64) (j : Fin 384) (g : Fin 2) (d : Fin 128) (hj : 128 ≤ 128 * n.val + j.val ∧ 128 * n.val + j.val < 8320) :
    val_main_v19 (F := Ideal) x3 (ix5 b n j g d) = x3 (ix3 b (Attention.keyAt n.val j.val) ⟨128 * g.val + d.val, by omega⟩) := by
  unfold Attention.keyAt
  pointwise [val_main_v19, val_main_v18, val_main_v17, val_main_v16, val_main_v15, val_main_v14, val_main_v2]
  split_ifs <;> first | omega | blk_ext

/-- The queries by block, key head and head. -/
theorem queries_apply (b : Fin 2) (n : Fin 64) (a : Fin 128) (g : Fin 2) (h : Fin 4) (d : Fin 128) :
    val_main_v5 (F := Ideal) x1 (ix6 b n a g h d) = x1 (ix3 b ⟨128 * n.val + a.val, by omega⟩ ⟨512 * g.val + 128 * h.val + d.val, by omega⟩) := by
  pointwise [val_main_v5, val_main_v0]
  blk_ext

/-- The context keys by head. -/
theorem contextKeys_apply (b : Fin 2) (s : Fin 256) (g : Fin 2) (d : Fin 128) :
    val_main_v6 (F := Ideal) x4 (ix4 b s g d) = x4 (ix3 b s ⟨128 * g.val + d.val, by omega⟩) := by
  pointwise [val_main_v6, val_main_v3]
  blk_ext

/-- The context values by head. -/
theorem contextValues_apply (b : Fin 2) (s : Fin 256) (g : Fin 2) (d : Fin 128) :
    val_main_v7 (F := Ideal) x5 (ix4 b s g d) = x5 (ix3 b s ⟨128 * g.val + d.val, by omega⟩) := by
  pointwise [val_main_v7, val_main_v4]
  blk_ext

/-- The sinks by head. -/
theorem sinks_apply (g : Fin 2) (h : Fin 4) :
    val_main_v58 (F := Ideal) x0 (ix5 0 0 g h 0) = x0 (ix1 ⟨4 * g.val + h.val, by omega⟩) := by
  pointwise [val_main_v58]
  blk_ext

section
variable (b : Fin 2) (n : Fin 64) (g : Fin 2) (h : Fin 4) (a : Fin 128)

/-- One query, -/
abbrev qs : Fin 128 → EReal := fun d => val_main_v5 (F := Ideal) x1 (ix6 b n a g h d)
/-- its neighbouring keys, -/
abbrev ks : Fin 384 → Fin 128 → EReal := fun j d => val_main_v13 (F := Ideal) x2 (ix5 b n j g d)
/-- its context keys, -/
abbrev cs : Fin 256 → Fin 128 → EReal := fun s d => val_main_v6 (F := Ideal) x4 (ix4 b s g d)
/-- and its head's sink. -/
abbrev ss : EReal := val_main_v58 (F := Ideal) x0 (ix5 0 0 g h 0)

variable {b n g h a}

/-- The word of `-∞`. -/
theorem word_bot : Ideal.ofBits .f32 0xFF800000#32 = ⊥ := by
  simp [Ideal.ofBits, Ideal.ieee]

/-- The masked scores. -/
theorem near_apply (j : Fin 384) : val_main_v55 (F := Ideal) x1 x2 (ix6 b n g h a j) = Attention.near n.val a.val (qs x1 b n g h a) (ks x2 b n g) j := by
  rw [val_main_v55_apply, mask_apply, val_main_v21_apply, val_main_v20_apply]
  rw [Attention.select_ofBool]
  unfold Attention.near
  refine if_congr Iff.rfl ?_ word_bot
  exact Finset.sum_congr rfl fun d _ => (mul_comm _ _).trans (congrArg₂ (· * ·) (congrArg (val_main_v5 (F := Ideal) x1) (eq_ix6 _)) (congrArg (val_main_v13 (F := Ideal) x2) (eq_ix5 _)))

/-- The context scores. -/
theorem far_apply (s : Fin 256) : val_main_v57 (F := Ideal) x1 x4 (ix6 b n g h a s) = Attention.far (qs x1 b n g h a) (cs x4 b g) s := by
  rw [val_main_v57_apply, val_main_v56_apply]
  exact Finset.sum_congr rfl fun d _ => (mul_comm _ _).trans (congrArg₂ (· * ·) (congrArg (val_main_v5 (F := Ideal) x1) (eq_ix6 _)) (congrArg (val_main_v6 (F := Ideal) x4) (eq_ix4 _)))

/-- The largest score. -/
theorem peak_apply : val_main_v63 (F := Ideal) x0 x1 x2 x4 (ix5 b n g h a)
    = Attention.peak n.val a.val (qs x1 b n g h a) (ks x2 b n g) (cs x4 b g) (ss x0 g h) := by
  rw [val_main_v63_apply, val_main_v61_apply, val_main_v62_apply]
  unfold val_main_v59 val_main_v60 Attention.peak
  rw [Host.reduce_eq_fold_single _ _ _ _ (by decide), Host.reduce_eq_fold_single _ _ _ _ (by decide)]
  refine congrArg₂ max (congrArg₂ max ?_ ?_) (congrArg (val_main_v58 (F := Ideal) x0) (eq_ix5 _))
  · exact congrArg₂ (fun (z : EReal) (f : Fin 384 → EReal) => Finset.univ.fold max z f) word_bot
      (funext fun j => (congrArg (val_main_v55 (F := Ideal) x1 x2) (eq_ix6 _)).trans (near_apply x1 x2 j))
  · exact congrArg₂ (fun (z : EReal) (f : Fin 256 → EReal) => Finset.univ.fold max z f) word_bot
      (funext fun s => (congrArg (val_main_v57 (F := Ideal) x1 x4) (eq_ix6 _)).trans (far_apply x1 x4 s))

/-- The exponentials of the neighbouring scores, -/
theorem expNear_apply (j : Fin 384) : val_main_v67 (F := Ideal) x0 x1 x2 x4 (ix6 b n g h a j)
    = Ideal.exp (Attention.near n.val a.val (qs x1 b n g h a) (ks x2 b n g) j
        - Attention.peak n.val a.val (qs x1 b n g h a) (ks x2 b n g) (cs x4 b g) (ss x0 g h)) := by
  rw [val_main_v67_apply, val_main_v66_apply, val_main_v65_apply, val_main_v64_apply, near_apply]
  have e : val_main_v63 (F := Ideal) x0 x1 x2 x4 (idx_main_v64 (idx_main_v65 (ix6 b n g h a j)))
      = Attention.peak n.val a.val (qs x1 b n g h a) (ks x2 b n g) (cs x4 b g) (ss x0 g h) :=
    (congrArg (val_main_v63 (F := Ideal) x0 x1 x2 x4) (eq_ix5 _)).trans (peak_apply x0 x1 x2 x4)
  rw [e]
  rfl

/-- and of the context scores. -/
theorem expFar_apply (s : Fin 256) : val_main_v71 (F := Ideal) x0 x1 x2 x4 (ix6 b n g h a s)
    = Ideal.exp (Attention.far (qs x1 b n g h a) (cs x4 b g) s
        - Attention.peak n.val a.val (qs x1 b n g h a) (ks x2 b n g) (cs x4 b g) (ss x0 g h)) := by
  rw [val_main_v71_apply, val_main_v70_apply, val_main_v69_apply, val_main_v68_apply, far_apply]
  exact congrArg (fun z => Ideal.exp (_ - z)) ((congrArg (val_main_v63 (F := Ideal) x0 x1 x2 x4) (eq_ix5 _)).trans (peak_apply x0 x1 x2 x4))

/-- The word of zero. -/
theorem word_zero : Ideal.ofBits .f32 0x00000000#32 = 0 := by
  simp [Ideal.ofBits, Ideal.ieee]

/-- Their sum. -/
theorem total_apply : val_main_v78 (F := Ideal) x0 x1 x2 x4 (ix5 b n g h a)
    = Attention.total n.val a.val (qs x1 b n g h a) (ks x2 b n g) (cs x4 b g) (ss x0 g h) := by
  rw [val_main_v78_apply, val_main_v74_apply, val_main_v77_apply, val_main_v76_apply, val_main_v75_apply, val_main_v72_apply, val_main_v73_apply, peak_apply]
  unfold Attention.total
  refine congrArg₂ (· + ·) (congrArg₂ (· + ·) ?_ ?_) ?_
  · refine (congrArg (· + _) word_zero).trans ((zero_add _).trans (Finset.sum_congr rfl fun j _ => ?_))
    exact (congrArg (val_main_v67 (F := Ideal) x0 x1 x2 x4) (eq_ix6 _)).trans (expNear_apply x0 x1 x2 x4 j)
  · refine (congrArg (· + _) word_zero).trans ((zero_add _).trans (Finset.sum_congr rfl fun s _ => ?_))
    exact (congrArg (val_main_v71 (F := Ideal) x0 x1 x2 x4) (eq_ix6 _)).trans (expFar_apply x0 x1 x2 x4 s)
  · exact congrArg (fun z => Ideal.exp (z - _)) (congrArg (val_main_v58 (F := Ideal) x0) (eq_ix5 _))

/-- The weighted values. -/
theorem mass_apply (d : Fin 128) : val_main_v82 (F := Ideal) x0 x1 x2 x3 x4 x5 (ix6 b n g h a d)
    = Attention.mass n.val a.val (qs x1 b n g h a) (ks x2 b n g) (cs x4 b g) (ss x0 g h)
        (fun j => val_main_v19 (F := Ideal) x3 (ix5 b n j g d)) (fun s => val_main_v7 (F := Ideal) x5 (ix4 b s g d)) := by
  rw [val_main_v82_apply, val_main_v81_apply, val_main_v79_apply, val_main_v80_apply]
  unfold Attention.mass
  refine congrArg₂ (· + ·) (Finset.sum_congr rfl fun j _ => ?_) (Finset.sum_congr rfl fun s _ => (mul_comm _ _).trans ?_)
  · exact congrArg₂ (· * ·) ((congrArg (val_main_v67 (F := Ideal) x0 x1 x2 x4) (eq_ix6 _)).trans (expNear_apply x0 x1 x2 x4 j)) (congrArg (val_main_v19 (F := Ideal) x3) (eq_ix5 _))
  · exact congrArg₂ (· * ·) ((congrArg (val_main_v71 (F := Ideal) x0 x1 x2 x4) (eq_ix6 _)).trans (expFar_apply x0 x1 x2 x4 s)) (congrArg (val_main_v7 (F := Ideal) x5) (eq_ix4 _))

/-- Their quotient. -/
theorem quotient_apply (d : Fin 128) : val_main_v85 (F := Ideal) x0 x1 x2 x3 x4 x5 (ix6 b n g h a d)
    = Ideal.div (Attention.mass n.val a.val (qs x1 b n g h a) (ks x2 b n g) (cs x4 b g) (ss x0 g h)
        (fun j => val_main_v19 (F := Ideal) x3 (ix5 b n j g d)) (fun s => val_main_v7 (F := Ideal) x5 (ix4 b s g d)))
      (Attention.total n.val a.val (qs x1 b n g h a) (ks x2 b n g) (cs x4 b g) (ss x0 g h)) := by
  rw [val_main_v85_apply, val_main_v84_apply, val_main_v83_apply, mass_apply]
  exact congrArg (Ideal.div _) ((congrArg (val_main_v78 (F := Ideal) x0 x1 x2 x4) (eq_ix5 _)).trans (total_apply x0 x1 x2 x4))

end

/-- The reference's result: the quotient of the weighted values and the sum of the exponentials. -/
theorem result (b : Fin 2) (l : Fin 8192) (ch : Fin 1024) : val_main_v88 (F := Ideal) x0 x1 x2 x3 x4 x5 (ix3 b l ch)
    = Ideal.div (Attention.outMass (fun h => x0 (ix1 h)) (fun b l e => x1 (ix3 b l e)) (fun b l e => x2 (ix3 b l e)) (fun b l e => x3 (ix3 b l e))
        (fun b l e => x4 (ix3 b l e)) (fun b l e => x5 (ix3 b l e)) b l ch)
      (Attention.outTotal (fun h => x0 (ix1 h)) (fun b l e => x1 (ix3 b l e)) (fun b l e => x2 (ix3 b l e)) (fun b l e => x4 (ix3 b l e)) b l ch) := by
  have hn : l.val / 128 < 64 := by omega
  have hg : ch.val / 512 < 2 := by omega
  have hh : ch.val / 128 % 4 < 4 := by omega
  have e : val_main_v88 (F := Ideal) x0 x1 x2 x3 x4 x5 (ix3 b l ch) = val_main_v85 (F := Ideal) x0 x1 x2 x3 x4 x5
      (ix6 b ⟨l.val / 128, hn⟩ ⟨ch.val / 512, hg⟩ ⟨ch.val / 128 % 4, hh⟩ ⟨l.val % 128, Nat.mod_lt _ (by decide)⟩ ⟨ch.val % 128, Nat.mod_lt _ (by decide)⟩) := by
    pointwise [val_main_v88, val_main_v87, val_main_v86]
    blk_ext
  refine e.trans ((quotient_apply x0 x1 x2 x3 x4 x5 _).trans ?_)
  have hK : ∀ j : Fin 384, Attention.Sees (l.val / 128) (l.val % 128) j.val → ∀ d, ks x2 b ⟨l.val / 128, hn⟩ ⟨ch.val / 512, hg⟩ j d
      = x2 (ix3 b (Attention.keyAt (l.val / 128) j.val) ⟨128 * (ch.val / 512) + d.val, by omega⟩) := fun j hj d => keys_apply x2 b _ j _ d hj.2
  have hV : ∀ j : Fin 384, Attention.Sees (l.val / 128) (l.val % 128) j.val → val_main_v19 (F := Ideal) x3 (ix5 b ⟨l.val / 128, hn⟩ j ⟨ch.val / 512, hg⟩ ⟨ch.val % 128, Nat.mod_lt _ (by decide)⟩)
      = x3 (ix3 b (Attention.keyAt (l.val / 128) j.val) ⟨128 * (ch.val / 512) + ch.val % 128, by omega⟩) := fun j hj => values_apply x3 b _ j _ _ hj.2
  have hQ : qs x1 b ⟨l.val / 128, hn⟩ ⟨ch.val / 512, hg⟩ ⟨ch.val / 128 % 4, hh⟩ ⟨l.val % 128, Nat.mod_lt _ (by decide)⟩ = fun d => x1 (ix3 b l ⟨128 * (ch.val / 128) + d.val, by omega⟩) := by
    funext d
    refine (queries_apply x1 _ _ _ _ _ d).trans ?_
    blk_ext
  have hC : cs x4 b ⟨ch.val / 512, hg⟩ = fun s d => x4 (ix3 b s ⟨128 * (ch.val / 512) + d.val, by omega⟩) := by
    funext s d
    exact contextKeys_apply x4 b s _ d
  have hW : (fun s => val_main_v7 (F := Ideal) x5 (ix4 b s ⟨ch.val / 512, hg⟩ ⟨ch.val % 128, Nat.mod_lt _ (by decide)⟩)) = fun s => x5 (ix3 b s ⟨128 * (ch.val / 512) + ch.val % 128, by omega⟩) := by
    funext s
    exact contextValues_apply x5 b s _ _
  have hS : ss x0 ⟨ch.val / 512, hg⟩ ⟨ch.val / 128 % 4, hh⟩ = x0 (ix1 ⟨ch.val / 128, by omega⟩) := by
    refine (sinks_apply x0 _ _).trans ?_
    blk_ext
  unfold Attention.outMass Attention.outTotal
  rw [hQ, hC, hW, hS, Attention.mass_congr hK hV, Attention.total_congr hK]

end Cert.AttnRefIdeal.Formula

end
-- ==== Proof.AttnClaim.lean ====
/- The windowed attention: where the scores' factors are finite, the call and the reference agree. -/
module

public import proofs.«01_k».proof.Defs
public import proofs.«01_k».proof.Proof.AttnKernel
public import proofs.«01_k».proof.Proof.AttnReference
public import proofs.«01_k».proof.Proof.Gen.AttnRefIdeal.Run
public import proofs.«01_k».proof.Proof.Gen.Pre_scores_finite

@[expose] public section

set_option maxRecDepth 16384

noncomputable section

namespace Cert.Proof.AttnClaims

open Idealize.ShloMosaic Idealize.SL.Sem

/-- A comparison word that says `|x| < +∞` says that `x` is neither infinity. -/
theorem finite_of_word (x : EReal) (h : BitVec.ofBool (decide (max x (-x) < Ideal.ofBits .f32 0x7F800000#32)) = 1#1) : x ≠ ⊤ ∧ x ≠ ⊥ := by
  have top : Ideal.ofBits .f32 0x7F800000#32 = ⊤ := by simp [Ideal.ofBits, Ideal.ieee]
  rw [top] at h
  have hlt : max x (-x) < ⊤ := by
    by_contra hc
    rw [decide_eq_false hc] at h
    exact absurd h (by decide)
  refine ⟨fun e => ?_, fun e => ?_⟩
  · subst e; simp at hlt
  · subst e; simp at hlt

/-- The sum of the exponentials is not zero at any query: the precondition bounds all its scores. -/
theorem total_ne_zero (m : (ℓ : Loc Cert.AttnIdeal.nD Cert.AttnIdeal.τ Cert.AttnIdeal.sig) → Buf (Elt Ideal) ℓ)
    (hpre : Cert.Pre_AttnIdeal_scores_finite m) (c : Dev Cert.AttnIdeal.nD) (b : Fin 2) (l : Fin 8192) (ch : Fin 1024) :
    Cert.Attention.outTotal (fun h => m ((c.tc : Thread Cert.AttnIdeal.nD Cert.AttnIdeal.τ).loc Cert.AttnIdeal.main_arg0) (ix1 h))
      (fun b l e => m ((c.tc : Thread Cert.AttnIdeal.nD Cert.AttnIdeal.τ).loc Cert.AttnIdeal.main_arg1) (ix3 b l e))
      (fun b l e => m ((c.tc : Thread Cert.AttnIdeal.nD Cert.AttnIdeal.τ).loc Cert.AttnIdeal.main_arg2) (ix3 b l e))
      (fun b l e => m ((c.tc : Thread Cert.AttnIdeal.nD Cert.AttnIdeal.τ).loc Cert.AttnIdeal.main_arg4) (ix3 b l e)) b l ch ≠ 0 := by
  obtain ⟨hs, hq, hk, hc⟩ := hpre c
  unfold Cert.Attention.outTotal
  exact Cert.Attention.total_ne_zero (finite_of_word _ (congrFun hs (ix1 _)))
    (fun _ => finite_of_word _ (congrFun hq (ix3 _ _ _))) (fun _ _ => finite_of_word _ (congrFun hk (ix3 _ _ _)))
    (fun _ _ => finite_of_word _ (congrFun hc (ix3 _ _ _)))

/-- Over the extended reals, with finite sinks, queries, keys and context keys, the attention's result is the reference's. -/
theorem algebraic : Cert.algebraic_AttnIdeal_AttnRefIdeal_pre_scores_finite := by
  pair_intro
  · run_from Cert.AttnIdeal.Value.run_blocks m g
  · run_from Cert.AttnRefIdeal.Value.run m' g'
    refine Eq.trans ?_ (Cert.AttnIdeal.Call.final m c).symm
    obtain ⟨h0, h1, h2, h3, h4, h5⟩ := hagree c
    rw [Cert.AttnRefIdeal.Read.val_main_v88_eq, h0, h1, h2, h3, h4, h5]
    funext j
    refine Eq.trans (congrArg _ (eq_ix3 j)) ?_
    refine (Cert.AttnRefIdeal.Formula.result _ _ _ _ _ _ (j 0) (j 1) (j 2)).trans ?_
    exact (Cert.Attention.mul_div_one _ (total_ne_zero m hpre c (j 0) (j 1) (j 2))).symm

end Cert.Proof.AttnClaims

end
-- ==== Proof.Formulas.lean ====
/- The scalar functions the layer is made of, over the extended reals: both the calls and the references are read down to
   these. The constants stay the words the programs spell. -/
module

public import Idealize.ShloMosaic.Lib.Pointwise

@[expose] public section

noncomputable section

namespace Cert.Layer

open Idealize.ShloMosaic

/-- The gated linear unit's `tanh` form: `x · (1/2 · (1 + tanh (c · (x + d · x³))))`. -/
def gelu (x : EReal) : EReal :=
  x * (Ideal.ofBits .f32 0x3F000000#32
    * (1 + Ideal.tanh (Ideal.ofBits .f32 0x3F4C422A#32 * (x + Ideal.ofBits .f32 0x3D372713#32 * (x * x * x)))))

/-- The same with the half multiplied to `x` first, as the calls spell it. -/
theorem gelu_left (x : EReal) :
    Ideal.ofBits .f32 0x3F000000#32 * x
      * (1 + Ideal.tanh (Ideal.ofBits .f32 0x3F4C422A#32 * (x + Ideal.ofBits .f32 0x3D372713#32 * (x * x * x)))) = gelu x := by
  unfold gelu
  rw [mul_comm (Ideal.ofBits .f32 0x3F000000#32) x, mul_assoc]

/-- The logistic gate `1 / (1 + e^(-x))`. -/
def gate (x : EReal) : EReal := Ideal.div 1 (1 + Ideal.exp (-x))

/-- The same with the negation spelt `0 - x`, as the calls spell it. -/
theorem gate_zero_sub (x : EReal) : Ideal.div 1 (1 + Ideal.exp (0 - x)) = gate x := by
  unfold gate
  rw [zero_sub]

/-- The reciprocal root mean square of a row of 1024. -/
def rinv (f : Fin 1024 → EReal) : EReal :=
  Ideal.rsqrt (Ideal.div (∑ k, f k * f k) (Ideal.ofBits .f32 0x44800000#32) + Ideal.ofBits .f32 0x358637BD#32)

end Cert.Layer

end
-- ==== Proof.FfnFormula.lean ====
/- The convolutional feed-forward part as formulas over its arguments: both the call and the reference are read down to these. -/
module

public import proofs.«01_k».proof.Proof.Formulas
public import Idealize.ShloMosaic.Lib.Pipeline.ValueKit

@[expose] public section

set_option maxRecDepth 16384

noncomputable section

namespace Cert.FeedForward

open Idealize.ShloMosaic Cert.Layer

variable (h : FVec Ideal ⟨3, ![2, 8192, 1024]⟩ .bf16) (x : FVec Ideal ⟨3, ![2, 8192, 1024]⟩ .f32) (md : FVec Ideal ⟨3, ![8, 6, 1024]⟩ .f32)
  (wu : FVec Ideal ⟨3, ![1, 1024, 6144]⟩ .f32) (cw : FVec Ideal ⟨3, ![1, 3, 6144]⟩ .f32) (cb : FVec Ideal ⟨2, ![1, 6144]⟩ .f32)
  (wd : FVec Ideal ⟨3, ![1, 3072, 1024]⟩ .f32) (fw : FVec Ideal ⟨1, ![1024]⟩ .f32)

/-- The up-projection at the place before position `p` of batch `b`, channel `f`: zero off the sequence. Position `l`'s three
    neighbours are `l`, `l + 1` and `l + 2` here. -/
def up (b : Fin 2) (p : ℕ) (f : Fin 6144) : EReal :=
  if H : 1 ≤ p ∧ p ≤ 8192 then ∑ k : Fin 1024, h (ix3 b ⟨p - 1, by omega⟩ k) * wu (ix3 0 k f) else 0

/-- The convolution of width three over positions. -/
def conv (b : Fin 2) (l : ℕ) (f : Fin 6144) : EReal :=
  cb (ix2 0 f) + (cw (ix3 0 0 f) * up h wu b l f + cw (ix3 0 1 f) * up h wu b (l + 1) f + cw (ix3 0 2 f) * up h wu b (l + 2) f)

/-- The gated hidden channel: the gelu of the first half's channel times the second half's. -/
def hidden (b : Fin 2) (l : ℕ) (f : Fin 3072) : EReal :=
  gelu (conv h wu cw cb b l ⟨f.val, by omega⟩) * conv h wu cw cb b l ⟨3072 + f.val, by omega⟩

/-- The tokens after the feed-forward part's residual step. -/
def resid (b : Fin 2) (l : Fin 8192) (k : Fin 1024) : EReal :=
  x (ix3 b l k) + md (ix3 ⟨b.val, Nat.lt_trans b.isLt (by decide)⟩ 5 k) * ∑ f : Fin 3072, hidden h wu cw cb b l.val f * wd (ix3 0 f k)

/-- The layer's result: the tokens normalised over their channels and scaled. -/
def result (b : Fin 2) (l : Fin 8192) (k : Fin 1024) : EReal :=
  resid h x md wu cw cb wd b l k * rinv (fun p => resid h x md wu cw cb wd b l p) * fw (ix1 k)

end Cert.FeedForward

end
-- ==== Proof.FfnUnit.lean ====
/- One block of 512 tokens of the feed-forward call: the rows with their halo, a chunk of 512 hidden channels, the last step. -/
module

public import proofs.«01_k».proof.Proof.FfnFormula
public import proofs.«01_k».proof.Proof.Gen.FfnIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.FfnIdeal.Call

open Idealize.ShloMosaic Idealize.ShloMosaic.TcCoe Idealize.SL.Sem
open Cert.FfnIdeal Cert.FfnIdeal.Gen Cert.Layer

/-- The convolution of a chunk: its bias row, its three rows of weights, and the three shifted windows. -/
abbrev convT (b w0 w1 w2 : FVec Ideal S1x512 .f32) (u0 u1 u2 : FVec Ideal S512x512 .f32) : FVec Ideal S512x512 .f32 :=
  addf (broadcastTo S512x512 (shapeCast S1x512 b shapeCasts_S1x512_S1x512) broadcasts_S1x512_S512x512)
    (addf (addf (addf (broadcast S512x512 (Scalar.ofBits .f32 0x00000000#32 : Ideal .f32))
      (mulf (broadcastTo S512x512 (shapeCast S1x512 w0 shapeCasts_S1x512_S1x512) broadcasts_S1x512_S512x512) u0))
      (mulf (broadcastTo S512x512 (shapeCast S1x512 w1 shapeCasts_S1x512_S1x512) broadcasts_S1x512_S512x512) u1))
      (mulf (broadcastTo S512x512 (shapeCast S1x512 w2 shapeCasts_S1x512_S1x512) broadcasts_S1x512_S512x512) u2))

theorem convT_apply (b w0 w1 w2 : FVec Ideal S1x512 .f32) (u0 u1 u2 : FVec Ideal S512x512 .f32) (r f : Fin 512) :
    convT b w0 w1 w2 u0 u1 u2 (ix2 r f)
      = b (ix2 0 f) + (w0 (ix2 0 f) * u0 (ix2 r f) + w1 (ix2 0 f) * u1 (ix2 r f) + w2 (ix2 0 f) * u2 (ix2 r f)) := by
  pointwise [convT]

/-- What a chunk adds to the accumulator: the gated channels times their rows of the down-projection. -/
abbrev partT (A V : FVec Ideal S512x512 .f32) (W : FVec Ideal S512x1024 .bf16) : FVec Ideal S512x1024 .f32 :=
  matmul dot_S512x512_S512x1024_S512x1024_1_0_0_1_n_n none
    (truncf .bf16 (mulf (mulf (mulf (broadcast S512x512 (Scalar.ofBits .f32 0x3F000000#32 : Ideal .f32)) A)
      (addf (broadcast S512x512 (Scalar.ofBits .f32 0x3F800000#32 : Ideal .f32))
        (tanh (mulf (broadcast S512x512 (Scalar.ofBits .f32 0x3F4C422A#32 : Ideal .f32))
          (addf A (mulf (broadcast S512x512 (Scalar.ofBits .f32 0x3D372713#32 : Ideal .f32)) (mulf (mulf A A) A))))))) V) bitsLt_bf16_f32)
    (shapeCast S512x1024 W shapeCasts_S512x1024_S512x1024) (constant S512x1024 .f32 0x00000000#32)

theorem partT_apply (A V : FVec Ideal S512x512 .f32) (W : FVec Ideal S512x1024 .bf16) (r : Fin 512) (k : Fin 1024) :
    partT A V W (ix2 r k) = ∑ f : Fin 512, gelu (A (ix2 r f)) * V (ix2 r f) * W (ix2 f k) := by
  pointwise [partT, gelu_left]

/-- The up-projection of a chunk's channels at the block's rows. -/
abbrev upT (H : FVec Ideal S544x1024 .bf16) (W : FVec Ideal S1024x512 .bf16) : FVec Ideal S544x512 .f32 :=
  shapeCast S544x512 (matmul dot_S544x1024_S1024x512_S544x512_1_0_0_1_n_n none H (shapeCast S1024x512 W shapeCasts_S1024x512_S1024x512)
    (constant S544x512 .f32 0x00000000#32)) shapeCasts_S544x512_S544x512

theorem upT_apply (H : FVec Ideal S544x1024 .bf16) (W : FVec Ideal S1024x512 .bf16) (R : Fin 544) (f : Fin 512) :
    upT H W (ix2 R f) = ∑ k : Fin 1024, H (ix2 R k) * W (ix2 k f) := by
  pointwise [upT]

/-- A window of 512 rows of the scratch just filled. -/
abbrev winT (v : View sig .tc .vmem S544x512 .f32) (U : FVec Ideal S544x512 .f32) (L : List (View.Piece (Elt Ideal) S544x512 .f32)) (o : ℕ)
    (inb : ∀ a, ![o, 0] a + ![512, 512] a ≤ S544x512.size a) : FVec Ideal S512x512 .f32 :=
  v.readCov (Val := Elt Ideal) (⟨Rect.unit ![0, 0] ![544, 512] inb_S544x512_S544x512_0_0, U⟩ :: L) (Rect.unit (s := S544x512) ![o, 0] ![512, 512] inb).toLoadRect

theorem winT_apply (v : View sig .tc .vmem S544x512 .f32) (U : FVec Ideal S544x512 .f32) (L) (o : ℕ) (inb) (r f : Fin 512) (ho : o + r.val < 544) :
    winT v U L o inb (ix2 r f) = U (ix2 ⟨o + r.val, ho⟩ f) := by
  refine (congrFun (View.readCov_fill v (s := S544x512) (Val := Elt Ideal) inb_S544x512_S544x512_0_0 U L _ (by decide)) _).trans ?_
  refine View.ld_unit_apply_of (Val := Elt Ideal) (e := EltTy.f32) (S := S544x512) U _ _ inb _ (ix2 ⟨o + r.val, ho⟩ f) fun k => ?_
  match k with
  | ⟨0, _⟩ => rfl
  | ⟨1, _⟩ => simp

/-- The last step: the residual, and the norm over its channels. -/
theorem tail_apply (x3 : FVec Ideal S1x512x1024 .f32) (g : FVec Ideal S1x1x1024 .f32) (acc : FVec Ideal S512x1024 .f32) (w : FVec Ideal S1x1024 .f32)
    (X : Fin 512 → Fin 1024 → EReal) (hX : ∀ r k, x3 (ix3 0 r k) + g (ix3 0 0 k) * acc (ix2 r k) = X r k) (r : Fin 512) (k : Fin 1024) :
    k0_pay1 (F := Ideal) (k0_pay53 x3) (k0_pay54 g) acc w (ix3 0 r k) = X r k * rinv (fun p => X r p) * w (ix2 0 k) := by
  have e : X = fun r k => x3 (ix3 0 r k) + g (ix3 0 0 k) * acc (ix2 r k) := by
    funext r k
    exact (hX r k).symm
  subst e
  unfold rinv
  pointwise [k0_pay1, k0_pay53, k0_pay54]

/-- The block's rows with their halo: sixteen rows before, the 512, sixteen after; a halo row off the sequence is zero. -/
def halo (A C : FVec Ideal S1x16x1024 .bf16) (B : FVec Ideal S1x512x1024 .bf16) (first last : Prop) [Decidable first] [Decidable last]
    (R : ℕ) (k : Fin 1024) : EReal :=
  if h : R < 16 then (if first then 0 else A (ix3 0 ⟨R, h⟩ k))
  else if h' : R < 528 then B (ix3 0 ⟨R - 16, by omega⟩ k)
  else if h'' : R < 544 then (if last then 0 else C (ix3 0 ⟨R - 528, by omega⟩ k)) else 0

/-- The word of `the block is the last`, -/
theorem word_last : ∀ i : Fin 16, Scalar.cmpi .slt (BitVec.ofNat 32 i.val) 15#32 = if i.val = 15 then 0#1 else 1#1 := by decide

/-- and of `the block is the first`. -/
theorem word_first : ∀ i : Fin 16, Scalar.cmpi .sgt (BitVec.ofNat 32 i.val) 0#32 = if i.val = 0 then 0#1 else 1#1 := by decide

theorem select_if {p : Prop} [Decidable p] {α : Type} (x y : α) : Scalar.select (if p then 0#1 else 1#1) x y = if p then y else x := by
  split <;> rfl

theorem after_apply (i : grid0.Coords) (C : FVec Ideal S1x16x1024 .bf16) (a : Fin 16) (k : Fin 1024) :
    k0_pay4 (F := Ideal) i C (ix2 a k) = if (i 1).val = 15 then 0 else C (ix3 0 a k) := by
  unfold k0_pay4
  simp only [word_last (i 1), select_if]
  split <;> pointwise

theorem before_apply (i : grid0.Coords) (A : FVec Ideal S1x16x1024 .bf16) (a : Fin 16) (k : Fin 1024) :
    k0_pay2 (F := Ideal) i A (ix2 a k) = if (i 1).val = 0 then 0 else A (ix3 0 a k) := by
  unfold k0_pay2
  simp only [word_first (i 1), select_if]
  split <;> pointwise

theorem own_apply (B : FVec Ideal S1x512x1024 .bf16) (a : Fin 512) (k : Fin 1024) : k0_pay3 (F := Ideal) B (ix2 a k) = B (ix3 0 a k) := by
  pointwise [k0_pay3]

/-- The scratch of rows after its three stores. -/
abbrev rowsT (v : View sig .tc .vmem S544x1024 .bf16) (i : grid0.Coords) (A C : FVec Ideal S1x16x1024 .bf16) (B : FVec Ideal S1x512x1024 .bf16)
    (inb : ∀ a, ![0, 0] a + ![544, 1024] a ≤ S544x1024.size a) : FVec Ideal S544x1024 .bf16 :=
  v.readCov (Val := Elt Ideal) [⟨Rect.unit ![528, 0] ![16, 1024] inb_S544x1024_S16x1024_528_0, k0_pay4 (F := Ideal) i C⟩,
    ⟨Rect.unit ![16, 0] ![512, 1024] inb_S544x1024_S512x1024_16_0, k0_pay3 (F := Ideal) B⟩,
    ⟨Rect.unit ![0, 0] ![16, 1024] inb_S544x1024_S16x1024_0_0, k0_pay2 (F := Ideal) i A⟩] (Rect.unit (s := S544x1024) ![0, 0] ![544, 1024] inb).toLoadRect

/-- The scratch of rows as it is read. -/
theorem halo_read (v : View sig .tc .vmem S544x1024 .bf16) (i : grid0.Coords) (A C : FVec Ideal S1x16x1024 .bf16) (B : FVec Ideal S1x512x1024 .bf16)
    (inb : ∀ a, ![0, 0] a + ![544, 1024] a ≤ S544x1024.size a) (R : Fin 544) (k : Fin 1024) :
    rowsT v i A C B inb (ix2 R k)
      = halo A C B ((i 1).val = 0) ((i 1).val = 15) R.val k := by
  unfold rowsT
  rw [View.readCov_eq_canon']
  have hy : (Rect.unit (s := S544x1024) ![0, 0] ![544, 1024] inb).toLoadRect.idx (ix2 R k) = ix2 R k := by
    funext a
    match a with
    | ⟨0, _⟩ => exact Fin.ext (by simp [Rect.idx_unit_val])
    | ⟨1, _⟩ => exact Fin.ext (by simp [Rect.idx_unit_val])
  change View.canon _ _ = _
  rw [hy]
  have hR : R.val < 544 := R.isLt
  have hk : k.val < 1024 := k.isLt
  canon_tiles z h using by
    by_cases h : R.val < 16
    · refine ⟨_, List.mem_cons_of_mem _ (List.mem_cons_of_mem _ List.mem_cons_self), ?_⟩
      exact (Rect.mem_set_unit (inb := inb_S544x1024_S16x1024_0_0)).2 fun a => match a with | ⟨0, _⟩ => ⟨Nat.zero_le _, h⟩ | ⟨1, _⟩ => ⟨Nat.zero_le _, hk⟩
    · by_cases h' : R.val < 528
      · refine ⟨_, List.mem_cons_of_mem _ List.mem_cons_self, ?_⟩
        exact (Rect.mem_set_unit (inb := inb_S544x1024_S512x1024_16_0)).2 fun a => match a with | ⟨0, _⟩ => ⟨not_lt.1 h, h'⟩ | ⟨1, _⟩ => ⟨Nat.zero_le _, hk⟩
      · refine ⟨_, List.mem_cons_self, ?_⟩
        exact (Rect.mem_set_unit (inb := inb_S544x1024_S16x1024_528_0)).2 fun a => match a with | ⟨0, _⟩ => ⟨not_lt.1 h', hR⟩ | ⟨1, _⟩ => ⟨Nat.zero_le _, hk⟩
  all_goals unfold halo
  case piece0 =>
    have e0 : R.val = 528 + (z 0).val := h0
    have e1 : k.val = (z 1).val := h1
    rw [dif_neg (by omega), dif_neg (by omega), dif_pos hR]
    refine (congrArg _ (eq_ix2 z)).trans ((after_apply i C (z 0) (z 1)).trans (if_congr Iff.rfl rfl (congrArg C ?_)))
    exact congrArg₂ (fun (a : Fin 16) (b : Fin 1024) => ix3 0 a b) (Fin.ext (by simp only; omega)) (Fin.ext e1.symm)
  case piece1 =>
    have e0 : R.val = 16 + (z 0).val := h0
    have e1 : k.val = (z 1).val := h1
    have hz : (z 0).val < 512 := (z 0).isLt
    rw [dif_neg (by omega), dif_pos (by omega)]
    refine (congrArg _ (eq_ix2 z)).trans ((own_apply B (z 0) (z 1)).trans (congrArg B ?_))
    exact congrArg₂ (fun (a : Fin 512) (b : Fin 1024) => ix3 0 a b) (Fin.ext (by simp only; omega)) (Fin.ext e1.symm)
  case piece2 =>
    have e0 : R.val = 0 + (z 0).val := by simpa using h0
    have e1 : k.val = (z 1).val := by simpa using h1
    have hz : (z 0).val < 16 := (z 0).isLt
    rw [dif_pos (by omega)]
    refine (congrArg _ (eq_ix2 z)).trans ((before_apply i A (z 0) (z 1)).trans (if_congr Iff.rfl rfl (congrArg A ?_)))
    exact congrArg₂ (fun (a : Fin 16) (b : Fin 1024) => ix3 0 a b) (Fin.ext (by simp only; omega)) (Fin.ext e1.symm)

section
variable (H : FVec Ideal S544x1024 .bf16) (WU : FVec Ideal S1024x6144 .bf16) (CW : FVec Ideal S3x6144 .f32) (CB : FVec Ideal S1x6144 .f32)
  (WD : FVec Ideal S3072x1024 .bf16)

/-- The convolution of a channel at a row of the block, from the rows with their halo: taps at rows `r + 15`, `r + 16`, `r + 17`. -/
def convRow (r : Fin 512) (f : Fin 6144) : EReal :=
  CB (ix2 0 f) + (CW (ix2 0 f) * (∑ k : Fin 1024, H (ix2 ⟨15 + r.val, by omega⟩ k) * WU (ix2 k f))
    + CW (ix2 1 f) * (∑ k : Fin 1024, H (ix2 ⟨16 + r.val, by omega⟩ k) * WU (ix2 k f))
    + CW (ix2 2 f) * (∑ k : Fin 1024, H (ix2 ⟨17 + r.val, by omega⟩ k) * WU (ix2 k f)))

/-- The gated hidden channel at a row of the block. -/
def hiddenRow (r : Fin 512) (f : Fin 3072) : EReal :=
  gelu (convRow H WU CW CB r ⟨f.val, by omega⟩) * convRow H WU CW CB r ⟨3072 + f.val, by omega⟩

/-- A load of a box out of a matrix. -/
theorem ld_box {e : EltTy} {a b ra rb : ℕ} (X : (⟨2, ![a, b]⟩ : Shape).Idx → Elt Ideal e) (o p : ℕ) (inb) (r : Fin ra) (c : Fin rb)
    (ho : o + r.val < a) (hp : p + c.val < b) :
    View.ld (Val := Elt Ideal) (e' := e) X (Rect.unit (s := ⟨2, ![a, b]⟩) ![o, p] ![ra, rb] inb) (ix2 r c) = X (ix2 ⟨o + r.val, ho⟩ ⟨p + c.val, hp⟩) := by
  refine View.ld_unit_apply_of (Val := Elt Ideal) (e := e) (S := ⟨2, ![a, b]⟩) X _ _ inb _ _ fun k => ?_
  match k with
  | ⟨0, _⟩ => rfl
  | ⟨1, _⟩ => rfl

/-- The convolution of the 512 channels from `c0` on, as the call computes it. -/
abbrev convC (v : View sig .tc .vmem S544x512 .f32) (L : List (View.Piece (Elt Ideal) S544x512 .f32)) (c0 : ℕ)
    (hb : ∀ a, ![0, c0] a + ![1, 512] a ≤ S1x6144.size a) (hw : ∀ (k : Fin 3) (a : Fin 2), ![k.val, c0] a + ![1, 512] a ≤ S3x6144.size a)
    (hu : ∀ a, ![0, c0] a + ![1024, 512] a ≤ S1024x6144.size a) : FVec Ideal S512x512 .f32 :=
  convT (View.ld (Val := Elt Ideal) (e' := EltTy.f32) CB (Rect.unit (s := S1x6144) ![0, c0] ![1, 512] hb))
    (View.ld (Val := Elt Ideal) (e' := EltTy.f32) CW (Rect.unit (s := S3x6144) ![(0 : Fin 3).val, c0] ![1, 512] (hw 0)))
    (View.ld (Val := Elt Ideal) (e' := EltTy.f32) CW (Rect.unit (s := S3x6144) ![(1 : Fin 3).val, c0] ![1, 512] (hw 1)))
    (View.ld (Val := Elt Ideal) (e' := EltTy.f32) CW (Rect.unit (s := S3x6144) ![(2 : Fin 3).val, c0] ![1, 512] (hw 2)))
    (winT v (upT H (View.ld (Val := Elt Ideal) (e' := EltTy.bf16) WU (Rect.unit (s := S1024x6144) ![0, c0] ![1024, 512] hu))) L 15 inb_S544x512_S512x512_15_0)
    (winT v (upT H (View.ld (Val := Elt Ideal) (e' := EltTy.bf16) WU (Rect.unit (s := S1024x6144) ![0, c0] ![1024, 512] hu))) L 16 inb_S544x512_S512x512_16_0)
    (winT v (upT H (View.ld (Val := Elt Ideal) (e' := EltTy.bf16) WU (Rect.unit (s := S1024x6144) ![0, c0] ![1024, 512] hu))) L 17 inb_S544x512_S512x512_17_0)

theorem convC_apply (v : View sig .tc .vmem S544x512 .f32) (L : List (View.Piece (Elt Ideal) S544x512 .f32)) (c0 : ℕ) (hb hw hu) (r f : Fin 512)
    (hf : c0 + f.val < 6144) : convC H WU CW CB v L c0 hb hw hu (ix2 r f) = convRow H WU CW CB r ⟨c0 + f.val, hf⟩ := by
  have hup (o : ℕ) (inb) (ho : o + r.val < 544) :
      winT v (upT H (View.ld (Val := Elt Ideal) (e' := EltTy.bf16) WU (Rect.unit (s := S1024x6144) ![0, c0] ![1024, 512] hu))) L o inb (ix2 r f)
        = ∑ k : Fin 1024, H (ix2 ⟨o + r.val, ho⟩ k) * WU (ix2 k ⟨c0 + f.val, hf⟩) := by
    refine (winT_apply v _ L o inb r f ho).trans ((upT_apply H _ _ f).trans (Finset.sum_congr rfl fun k _ => congrArg (H _ * ·) ?_))
    refine (ld_box (e := EltTy.bf16) WU 0 c0 hu k f (by omega) hf).trans (congrArg (fun q => WU (ix2 q _)) (Fin.ext ?_))
    exact Nat.zero_add _
  have hcw (k : Fin 3) : View.ld (Val := Elt Ideal) (e' := EltTy.f32) CW (Rect.unit (s := S3x6144) ![k.val, c0] ![1, 512] (hw k)) (ix2 0 f)
      = CW (ix2 k ⟨c0 + f.val, hf⟩) := ld_box (e := EltTy.f32) CW k.val c0 (hw k) (0 : Fin 1) f k.isLt hf
  refine (convT_apply _ _ _ _ _ _ _ r f).trans ?_
  unfold convRow
  rw [hup 15 _ (by omega), hup 16 _ (by omega), hup 17 _ (by omega), hcw 0, hcw 1, hcw 2]
  exact congrArg (· + _) (ld_box (e := EltTy.f32) CB 0 c0 hb (0 : Fin 1) f (by omega) hf)

/-- What the chunk of hidden channels from `512·n` on adds at a row of the block. -/
theorem chunk_apply (va vv : View sig .tc .vmem S544x512 .f32) (La Lv : List (View.Piece (Elt Ideal) S544x512 .f32)) (n : Fin 6)
    (hb hw hu hb' hw' hu') (hd : ∀ a, ![n.val * 512, 0] a + ![512, 1024] a ≤ S3072x1024.size a) (r : Fin 512) (k : Fin 1024) :
    partT (convC H WU CW CB va La (n.val * 512) hb hw hu) (convC H WU CW CB vv Lv (3072 + n.val * 512) hb' hw' hu')
      (View.ld (Val := Elt Ideal) (e' := EltTy.bf16) WD (Rect.unit (s := S3072x1024) ![n.val * 512, 0] ![512, 1024] hd)) (ix2 r k)
    = ∑ f : Fin 512, hiddenRow H WU CW CB r ⟨n.val * 512 + f.val, by omega⟩ * WD (ix2 ⟨n.val * 512 + f.val, by omega⟩ k) := by
  refine (partT_apply _ _ _ r k).trans (Finset.sum_congr rfl fun f _ => ?_)
  rw [convC_apply H WU CW CB va La _ hb hw hu r f (by omega), convC_apply H WU CW CB vv Lv _ hb' hw' hu' r f (by omega)]
  unfold hiddenRow
  refine congrArg₂ (· * ·) (congrArg (fun q => _ * convRow H WU CW CB r q) (Fin.ext (Nat.add_assoc _ _ _))) ?_
  refine (ld_box (e := EltTy.bf16) WD (n.val * 512) 0 hd f k (by omega) (by omega)).trans (congrArg (fun q => WD (ix2 _ q)) (Fin.ext ?_))
  exact Nat.zero_add _

/-- The six chunks together are the sum over all hidden channels. -/
theorem chunks_sum (g : Fin 3072 → EReal) (p : Fin 6 → EReal) (hp : ∀ n : Fin 6, p n = ∑ f : Fin 512, g ⟨n.val * 512 + f.val, by omega⟩) :
    p 0 + p 1 + p 2 + p 3 + p 4 + p 5 = ∑ f : Fin 3072, g f := by
  rw [Fin.sum_univ_tiles 6 512 rfl g, Fin.sum_univ_six]
  simp only [hp]

end

end Cert.FfnIdeal.Call

end
-- ==== Proof.FfnKernel.lean ====
/- The feed-forward call, call side: its result array is the formula of `FfnFormula`. -/
module

public import proofs.«01_k».proof.Proof.FfnUnit

@[expose] public section

set_option maxRecDepth 16384

noncomputable section

namespace Cert.FfnIdeal.Call

open Idealize.ShloMosaic Idealize.ShloMosaic.TcCoe Idealize.SL.Sem
open Idealize.ShloMosaic.Pipeline (Dat)
open Cert.FfnIdeal Cert.FfnIdeal.Gen Cert.Layer

/-- The accumulator after the sixth chunk: the first chunk stored, then five added. -/
theorem acc_apply (P0 P1 P2 P3 P4 P5 : FVec Ideal S512x1024 .f32) (r : Fin 512) (k : Fin 1024) (g : Fin 3072 → EReal)
    (h0 : P0 (ix2 r k) = ∑ f : Fin 512, g ⟨(0 : Fin 6).val * 512 + f.val, by omega⟩)
    (h1 : P1 (ix2 r k) = ∑ f : Fin 512, g ⟨(1 : Fin 6).val * 512 + f.val, by omega⟩)
    (h2 : P2 (ix2 r k) = ∑ f : Fin 512, g ⟨(2 : Fin 6).val * 512 + f.val, by omega⟩)
    (h3 : P3 (ix2 r k) = ∑ f : Fin 512, g ⟨(3 : Fin 6).val * 512 + f.val, by omega⟩)
    (h4 : P4 (ix2 r k) = ∑ f : Fin 512, g ⟨(4 : Fin 6).val * 512 + f.val, by omega⟩)
    (h5 : P5 (ix2 r k) = ∑ f : Fin 512, g ⟨(5 : Fin 6).val * 512 + f.val, by omega⟩) :
    shapeCast S512x1024 (addf (shapeCast S512x1024 (addf (shapeCast S512x1024 (addf (shapeCast S512x1024 (addf (shapeCast S512x1024 (addf
      (shapeCast S512x1024 P0 shapeCasts_S512x1024_S512x1024) P1) shapeCasts_S512x1024_S512x1024) P2) shapeCasts_S512x1024_S512x1024) P3)
      shapeCasts_S512x1024_S512x1024) P4) shapeCasts_S512x1024_S512x1024) P5) shapeCasts_S512x1024_S512x1024 (ix2 r k)
    = ∑ f : Fin 3072, g f := by
  rw [← chunks_sum g (fun n => ∑ f : Fin 512, g ⟨n.val * 512 + f.val, by omega⟩) (fun _ => rfl)]
  rw [← h0, ← h1, ← h2, ← h3, ← h4, ← h5]
  pointwise

variable (m : (ℓ : Loc nD τ sig) → Buf (Elt Ideal) ℓ)

theorem idx : ∀ t : Fin cfg0.N, win0_0.index t = ![t.val / 16, t.val % 16, 0]
    ∧ win0_1.index t = ![t.val / 16, 32 * (t.val % 16) - 1, 0]
    ∧ win0_2.index t = ![t.val / 16, min (32 * (t.val % 16 + 1)) 511, 0]
    ∧ win0_3.index t = ![t.val / 16, t.val % 16, 0] ∧ win0_4.index t = ![t.val / 16, 0, 0]
    ∧ win0_5.index t = ![0, 0] ∧ win0_6.index t = ![0, 0] ∧ win0_7.index t = ![0, 0] ∧ win0_8.index t = ![0, 0] ∧ win0_9.index t = ![0, 0]
    ∧ win0_10.index t = ![t.val / 16, t.val % 16, 0] ∧ t.val / 16 < 2 :=
  (by decide +kernel : ∀ t : Fin grid0.N, _)

theorem coord : ∀ t : Fin cfg0.N, ((grid0.coords t) 1).val = t.val % 16 := (by decide +kernel : ∀ t : Fin grid0.N, _)

theorem row_lt (t : Fin cfg0.N) (r : Fin 512) : t.val % 16 * 512 + r.val < 8192 := by omega

/-- The up-projection's weights as the call is given them: the argument's one layer, its casts dropped. -/
theorem up_weights (c : Dev nD) (t : Fin cfg0.N) (k : Fin 1024) (f : Fin 6144) :
    iblk m c 5 t (ix2 k f) = m ((c : Thread nD τ).loc main_arg3) (ix3 0 k f) := by
  blk_point [iblk, V, idx t]

theorem conv_weights (c : Dev nD) (t : Fin cfg0.N) (k : Fin 3) (f : Fin 6144) :
    iblk m c 6 t (ix2 k f) = m ((c : Thread nD τ).loc main_arg4) (ix3 0 k f) := by
  blk_point [iblk, V, idx t]

theorem conv_bias (c : Dev nD) (t : Fin cfg0.N) (f : Fin 6144) :
    iblk m c 7 t (ix2 0 f) = m ((c : Thread nD τ).loc main_arg5) (ix2 0 f) := by
  blk_point [iblk, V, idx t]

theorem down_weights (c : Dev nD) (t : Fin cfg0.N) (f : Fin 3072) (k : Fin 1024) :
    iblk m c 8 t (ix2 f k) = m ((c : Thread nD τ).loc main_arg6) (ix3 0 f k) := by
  blk_point [iblk, V, idx t]

theorem final_weights (c : Dev nD) (t : Fin cfg0.N) (k : Fin 1024) :
    iblk m c 9 t (ix2 0 k) = m ((c : Thread nD τ).loc main_arg7) (ix1 k) := by
  blk_point [iblk, V, idx t]

theorem own_rows (c : Dev nD) (t : Fin cfg0.N) (r : Fin 512) (k : Fin 1024) : iblk m c 0 t (ix3 0 r k)
    = m ((c : Thread nD τ).loc main_arg0) (ix3 ⟨t.val / 16, (idx t).2.2.2.2.2.2.2.2.2.2.2⟩ ⟨t.val % 16 * 512 + r.val, row_lt t r⟩ k) := by
  blk_point [iblk, V, idx t]

theorem rows_before (c : Dev nD) (t : Fin cfg0.N) (h : t.val % 16 ≠ 0) (r : Fin 16) (k : Fin 1024) : iblk m c 1 t (ix3 0 r k)
    = m ((c : Thread nD τ).loc main_arg0) (ix3 ⟨t.val / 16, (idx t).2.2.2.2.2.2.2.2.2.2.2⟩ ⟨t.val % 16 * 512 + r.val - 16, by omega⟩ k) := by
  blk_point [iblk, V, idx t]

theorem rows_after (c : Dev nD) (t : Fin cfg0.N) (h : t.val % 16 ≠ 15) (r : Fin 16) (k : Fin 1024) : iblk m c 2 t (ix3 0 r k)
    = m ((c : Thread nD τ).loc main_arg0) (ix3 ⟨t.val / 16, (idx t).2.2.2.2.2.2.2.2.2.2.2⟩ ⟨t.val % 16 * 512 + 512 + r.val, by omega⟩ k) := by
  blk_point [iblk, V, idx t]

/-- The block's rows with their halo, from the argument: row `15 + o + r` is the place before position `512·(t mod 16) + r + o`,
    zero off the sequence. -/
theorem halo_rows (c : Dev nD) (t : Fin cfg0.N) (o R : ℕ) (r : Fin 512) (k : Fin 1024) (ho : o ≤ 2) (hR : R = 15 + o + r.val) :
    halo (iblk m c 1 t) (iblk m c 2 t) (iblk m c 0 t) (((grid0.coords t) 1).val = 0) (((grid0.coords t) 1).val = 15) R k
    = if H : 1 ≤ t.val % 16 * 512 + r.val + o ∧ t.val % 16 * 512 + r.val + o ≤ 8192 then
        m ((c : Thread nD τ).loc main_arg0) (ix3 ⟨t.val / 16, (idx t).2.2.2.2.2.2.2.2.2.2.2⟩ ⟨t.val % 16 * 512 + r.val + o - 1, by omega⟩ k) else (0 : EReal) := by
  unfold halo
  have hr : r.val < 512 := r.isLt
  have ht : t.val % 16 < 16 := Nat.mod_lt _ (by decide)
  rw [coord t]
  by_cases h16 : R < 16
  · rw [dif_pos h16]
    by_cases hf : t.val % 16 = 0
    · rw [if_pos hf, dif_neg (by omega)]
    · rw [if_neg hf, dif_pos (by omega)]
      refine (rows_before m c t hf ⟨R, h16⟩ k).trans (congrArg (fun q : Fin 8192 => m ((c : Thread nD τ).loc main_arg0) (ix3 (⟨t.val / 16, (idx t).2.2.2.2.2.2.2.2.2.2.2⟩ : Fin 2) q k)) (Fin.ext ?_))
      simp only
      omega
  · rw [dif_neg h16]
    by_cases h528 : R < 528
    · rw [dif_pos h528, dif_pos (by omega)]
      refine (own_rows m c t ⟨R - 16, by omega⟩ k).trans (congrArg (fun q : Fin 8192 => m ((c : Thread nD τ).loc main_arg0) (ix3 (⟨t.val / 16, (idx t).2.2.2.2.2.2.2.2.2.2.2⟩ : Fin 2) q k)) (Fin.ext ?_))
      simp only
      omega
    · rw [dif_neg h528, dif_pos (by omega)]
      by_cases hl : t.val % 16 = 15
      · rw [if_pos hl, dif_neg (by omega)]
      · rw [if_neg hl, dif_pos (by omega)]
        refine (rows_after m c t hl ⟨R - 528, by omega⟩ k).trans (congrArg (fun q : Fin 8192 => m ((c : Thread nD τ).loc main_arg0) (ix3 (⟨t.val / 16, (idx t).2.2.2.2.2.2.2.2.2.2.2⟩ : Fin 2) q k)) (Fin.ext ?_))
        simp only
        omega

/-- A block's gated hidden channel is the formula's at its position. -/
theorem hidden_rows (c : Dev nD) (t : Fin cfg0.N) (H : FVec Ideal S544x1024 .bf16)
    (hH : ∀ (R : Fin 544) (k : Fin 1024), H (ix2 R k)
      = halo (iblk m c 1 t) (iblk m c 2 t) (iblk m c 0 t) (((grid0.coords t) 1).val = 0) (((grid0.coords t) 1).val = 15) R.val k)
    (r : Fin 512) (f : Fin 3072) :
    hiddenRow H (iblk m c 5 t) (iblk m c 6 t) (iblk m c 7 t) r f
    = FeedForward.hidden (m ((c : Thread nD τ).loc main_arg0)) (m ((c : Thread nD τ).loc main_arg3)) (m ((c : Thread nD τ).loc main_arg4))
        (m ((c : Thread nD τ).loc main_arg5)) ⟨t.val / 16, (idx t).2.2.2.2.2.2.2.2.2.2.2⟩ (t.val % 16 * 512 + r.val) f := by
  have hup (o R : ℕ) (hR : R = 15 + o + r.val) (hlt : R < 544) (ho : o ≤ 2) (e : Fin 6144) :
      (∑ k : Fin 1024, H (ix2 ⟨R, hlt⟩ k) * iblk m c 5 t (ix2 k e))
      = FeedForward.up (m ((c : Thread nD τ).loc main_arg0)) (m ((c : Thread nD τ).loc main_arg3)) ⟨t.val / 16, (idx t).2.2.2.2.2.2.2.2.2.2.2⟩
          (t.val % 16 * 512 + r.val + o) e := by
    have hrow (k : Fin 1024) := (hH ⟨R, hlt⟩ k).trans (halo_rows m c t o R r k ho hR)
    unfold FeedForward.up
    by_cases hp : 1 ≤ t.val % 16 * 512 + r.val + o ∧ t.val % 16 * 512 + r.val + o ≤ 8192
    · rw [dif_pos hp]
      refine Finset.sum_congr rfl fun k _ => ?_
      exact congrArg₂ (· * ·) ((hrow k).trans (dif_pos hp)) (up_weights m c t k e)
    · rw [dif_neg hp]
      refine Finset.sum_eq_zero fun k _ => ?_
      rw [(hrow k).trans (dif_neg hp), zero_mul]
  have hconv (e : Fin 6144) : convRow H (iblk m c 5 t) (iblk m c 6 t) (iblk m c 7 t) r e
      = FeedForward.conv (m ((c : Thread nD τ).loc main_arg0)) (m ((c : Thread nD τ).loc main_arg3)) (m ((c : Thread nD τ).loc main_arg4))
        (m ((c : Thread nD τ).loc main_arg5)) ⟨t.val / 16, (idx t).2.2.2.2.2.2.2.2.2.2.2⟩ (t.val % 16 * 512 + r.val) e := by
    unfold convRow FeedForward.conv
    refine congrArg₂ (· + ·) (conv_bias m c t e) (congrArg₂ (· + ·) (congrArg₂ (· + ·) ?_ ?_) ?_)
    · exact congrArg₂ (· * ·) (conv_weights m c t 0 e) (hup 0 (15 + r.val) (by omega) (by omega) (by omega) e)
    · exact congrArg₂ (· * ·) (conv_weights m c t 1 e) (hup 1 (16 + r.val) (by omega) (by omega) (by omega) e)
    · exact congrArg₂ (· * ·) (conv_weights m c t 2 e) (hup 2 (17 + r.val) (by omega) (by omega) (by omega) e)
  unfold hiddenRow FeedForward.hidden
  rw [hconv, hconv]

/-- The result, whole. -/
theorem final (c : Dev nD) : (dats m 0 c).arrAt 10 cfg0.N = fun j : S2x8192x1024.Idx =>
    FeedForward.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (j 0) (j 1) (j 2) := by
  refine (dats m 0 c).arrAt_eq_of_covers 10 _ (by decide +kernel) fun t _ y => ?_
  blk_simp
  rw [after0_10]; unfold outsAt0; frame_open; frame_out
  refine (congrArg (k0_pay1 _ _ _ _) (show y = ix3 0 (y 1) (y 2) from (eq_ix3 y).trans (congrArg (fun q : Fin 1 => ix3 q (y 1) (y 2)) (Subsingleton.elim _ _)))).trans ?_
  refine (tail_apply _ _ _ _ (fun r k => FeedForward.resid (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) ⟨t.val / 16, (idx t).2.2.2.2.2.2.2.2.2.2.2⟩ ⟨t.val % 16 * 512 + r.val, row_lt t r⟩ k) (fun r k => ?_) (y 1) (y 2)).trans ?_
  · unfold FeedForward.resid
    refine congrArg₂ (· + ·) ?_ (congrArg₂ (· * ·) ?_ ?_)
    · blk_point [iblk, V, idx t]
    · blk_point [iblk, V, idx t]
    · refine (acc_apply _ _ _ _ _ _ r k (fun f => hiddenRow (rowsT (View.whole cc0_scratch0) (grid0.coords t) (iblk m c 1 t) (iblk m c 2 t) (iblk m c 0 t) inb_S544x1024_S544x1024_0_0) (iblk m c 5 t) (iblk m c 6 t) (iblk m c 7 t) r f * iblk m c 8 t (ix2 f k))
        ?_ ?_ ?_ ?_ ?_ ?_).trans ?_
      rotate_left 6
      · refine Finset.sum_congr rfl fun f _ => congrArg₂ (· * ·) (hidden_rows m c t _ (fun R k => halo_read _ _ _ _ _ _ R k) r f) (down_weights m c t f k)
      · exact chunk_apply _ _ _ _ _ _ _ _ _ 0 _ (by decide) _ _ (by decide) _ _ r k
      · exact chunk_apply _ _ _ _ _ _ _ _ _ 1 _ (by decide) _ _ (by decide) _ _ r k
      · exact chunk_apply _ _ _ _ _ _ _ _ _ 2 _ (by decide) _ _ (by decide) _ _ r k
      · exact chunk_apply _ _ _ _ _ _ _ _ _ 3 _ (by decide) _ _ (by decide) _ _ r k
      · exact chunk_apply _ _ _ _ _ _ _ _ _ 4 _ (by decide) _ _ (by decide) _ _ r k
      · exact chunk_apply _ _ _ _ _ _ _ _ _ 5 _ (by decide) _ _ (by decide) _ _ r k
  · refine (congrArg₂ (· * ·) rfl (final_weights m c t (y 2))).trans ?_
    have at_place (j : S2x8192x1024.Idx) (e0 : t.val / 16 = (j 0).val) (e1 : t.val % 16 * 512 + (y 1).val = (j 1).val) (e2 : (y 2).val = (j 2).val) :
        FeedForward.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) ⟨t.val / 16, (idx t).2.2.2.2.2.2.2.2.2.2.2⟩ ⟨t.val % 16 * 512 + (y 1).val, row_lt t (y 1)⟩ (y 2)
        = FeedForward.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (j 0) (j 1) (j 2) :=
      congr (congr (congrArg _ (Fin.ext e0)) (Fin.ext e1)) (Fin.ext e2)
    refine at_place _ ?_ ?_ ?_
    · blk_point [idx t]
    · blk_point [idx t]
    · blk_point [idx t]

end Cert.FfnIdeal.Call

end
-- ==== Proof.FfnReference.lean ====
/- The feed-forward part, reference side: its result read entry by entry. -/
module

public import proofs.«01_k».proof.Proof.FfnFormula
public import proofs.«01_k».proof.Proof.Gen.FfnRefIdeal.Read
public import Idealize.ShloMosaic.Lib.KernelVsHost
public import Idealize.ShloMosaic.Lib.Pointwise
public import Idealize.ShloMosaic.Lib.Claim

@[expose] public section

set_option maxRecDepth 16384

noncomputable section

namespace Cert.FfnRefIdeal.Formula

open Idealize.ShloMosaic Cert.FfnRefIdeal Cert.FfnRefIdeal.Read Cert.Layer

variable (x0 : FVec Ideal S2x8192x1024 .bf16) (x1 : FVec Ideal S2x8192x1024 .f32) (x2 : FVec Ideal S8x6x1024 .f32)
  (x3 : FVec Ideal S1x1024x6144 .f32) (x4 : FVec Ideal S1x3x6144 .f32) (x5 : FVec Ideal S1x6144 .f32) (x6 : FVec Ideal S1x3072x1024 .f32)
  (x7 : FVec Ideal S1024 .f32)

/-- The up-projection at a position. -/
theorem projected (b : Fin 2) (l : Fin 8192) (f : Fin 6144) :
    val_main_v20 (F := Ideal) x0 x3 (ix3 b l f) = ∑ k : Fin 1024, x0 (ix3 b l k) * x3 (ix3 0 k f) := by
  pointwise [val_main_v20, val_main_v18, val_main_v19]

/-- The padded up-projection: zero at the first and the last place. -/
theorem padded (b : Fin 2) (p : Fin 8194) (f : Fin 6144) :
    val_main_v23 (F := Ideal) x0 x3 (ix3 b p f) = FeedForward.up x0 x3 b p.val f := by
  unfold FeedForward.up val_main_v23
  by_cases h : 1 ≤ p.val ∧ p.val ≤ 8192
  · rw [dif_pos h]
    refine (pad_apply_of_inside _ _ _ _ _ _ _ _ (ix3 b ⟨p.val - 1, by omega⟩ f) fun a => ?_).trans (projected x0 x3 b _ f)
    match a with
    | ⟨0, _⟩ => simp
    | ⟨1, _⟩ => simp; omega
    | ⟨2, _⟩ => simp
  · rw [dif_neg h]
    refine (pad_apply_of_not_inside _ _ _ _ _ _ _ _ ⟨1, by decide⟩ ?_).trans ?_
    · intro hh
      have h1 : 1 ≤ p.val := hh.1
      have h2 : (p.val - 1) / 1 < 8192 := hh.2.2
      rw [Nat.div_one] at h2
      omega
    · pointwise [val_main_call0_v0, val_main_c]
      exact sitofp_zero (φ := .f32)

/-- The convolution. -/
theorem convolved (b : Fin 2) (l : Fin 8192) (f : Fin 6144) :
    val_main_v46 (F := Ideal) x0 x3 x4 x5 (ix3 b l f) = FeedForward.conv x0 x3 x4 x5 b l.val f := by
  pointwise [val_main_v21, val_main_v22, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v44, val_main_v45]
  rw [padded, padded, padded]
  unfold FeedForward.conv
  rw [add_comm _ (x5 _)]
  refine congrArg (x5 _ + ·) (congrArg₂ (· + ·) (congrArg₂ (· + ·) (mul_comm _ _) ?_) ?_)
  · exact (mul_comm _ _).trans (congrArg (fun p : ℕ => _ * FeedForward.up x0 x3 b p f) (Nat.add_comm 1 l.val))
  · exact (mul_comm _ _).trans (congrArg (fun p : ℕ => _ * FeedForward.up x0 x3 b p f) (Nat.add_comm 2 l.val))

/-- The gated hidden channels. -/
theorem gated (b : Fin 2) (l : Fin 8192) (f : Fin 3072) :
    val_main_v62 (F := Ideal) x0 x3 x4 x5 (ix3 b l f) = FeedForward.hidden x0 x3 x4 x5 b l.val f := by
  pointwise [val_main_v47, val_main_v48, val_main_v49, val_main_v50, val_main_cst, val_main_v51, val_main_v52, val_main_v53, val_main_cst_0, val_main_v54, val_main_v55, val_main_v56, val_main_cst_1, val_main_v57, val_main_v58, val_main_cst_2, val_main_v59, val_main_v60, val_main_v61, val_main_v62]
  rw [convolved, convolved]
  unfold FeedForward.hidden gelu
  rfl

/-- The residual step. -/
theorem residual (b : Fin 2) (l : Fin 8192) (k : Fin 1024) :
    val_main_v67 (F := Ideal) x0 x1 x2 x3 x4 x5 x6 (ix3 b l k) = FeedForward.resid x0 x1 x2 x3 x4 x5 x6 b l k := by
  pointwise [val_main_v15, val_main_v16, val_main_v17, val_main_v63, val_main_v64, val_main_v65, val_main_v66, val_main_v67]
  simp only [gated]
  unfold FeedForward.resid
  rfl

/-- The reference's result. -/
theorem whole (j : S2x8192x1024.Idx) :
    val_main_v80 (F := Ideal) x0 x1 x2 x3 x4 x5 x6 x7 j = FeedForward.result x0 x1 x2 x3 x4 x5 x6 x7 (j 0) (j 1) (j 2) := by
  idx_vars j
  pointwise [val_main_v68, val_main_cst_3, val_main_v69, val_main_v70, val_main_cst_4, val_main_v71, val_main_v72, val_main_cst_5, val_main_v73, val_main_v74, val_main_v75, val_main_v76, val_main_v77, val_main_v78, val_main_v79, val_main_v80]
  simp only [residual]
  unfold FeedForward.result rinv
  rfl

end Cert.FfnRefIdeal.Formula

end
-- ==== Proof.FfnClaim.lean ====
/- The feed-forward part: the call and the reference agree. -/
module

public import proofs.«01_k».proof.Defs
public import proofs.«01_k».proof.Proof.FfnKernel
public import proofs.«01_k».proof.Proof.FfnReference
public import proofs.«01_k».proof.Proof.Gen.FfnRefIdeal.Run

@[expose] public section

set_option maxRecDepth 16384

noncomputable section

namespace Cert.Proof.FfnClaims

open Idealize.ShloMosaic Idealize.SL.Sem

/-- Over the extended reals the feed-forward call's result is the reference's. -/
theorem algebraic : Cert.algebraic_FfnIdeal_FfnRefIdeal := by
  pair_intro
  · run_from Cert.FfnIdeal.Value.run_blocks m g
  · run_from Cert.FfnRefIdeal.Value.run m' g'
    refine Eq.trans ?_ (Cert.FfnIdeal.Call.final m c).symm
    obtain ⟨h0, h1, h2, h3, h4, h5, h6, h7⟩ := hagree c
    rw [Cert.FfnRefIdeal.Read.val_main_v80_eq, h0, h1, h2, h3, h4, h5, h6, h7]
    funext j
    exact Cert.FfnRefIdeal.Formula.whole _ _ _ _ _ _ _ _ j

end Cert.Proof.FfnClaims

end
-- ==== Proof.MergeKernel.lean ====
/- The gated merge, call side. -/
module

public import proofs.«01_k».proof.Proof.Formulas
public import proofs.«01_k».proof.Proof.Gen.MergeIdeal.Value
public import Idealize.ShloMosaic.Lib.Pipeline.ValueKit
public import Idealize.ShloMosaic.Lib.Claim

@[expose] public section

set_option maxRecDepth 16384

noncomputable section

namespace Cert.MergeIdeal.Call

open Idealize.ShloMosaic Idealize.ShloMosaic.TcCoe Idealize.SL.Sem
open Idealize.ShloMosaic.Pipeline (Dat)
open Cert.MergeIdeal Cert.MergeIdeal.Gen Cert.Layer

/-- The recurrent branch before its projection: the two directions' states added, gated by the gelu of `rg`. -/
def branch (h : FVec Ideal S2x2x8192x1024 .f32) (rg : FVec Ideal S2x8192x1024 .f32) (b : Fin 2) (l : Fin 8192) (k : Fin 1024) : EReal :=
  (h (ix4 0 b l k) + h (ix4 1 b l k)) * gelu (rg (ix3 b l k))

/-- The two gated branches added, one entry. -/
def mixed (h : FVec Ideal S2x2x8192x1024 .f32) (rg : FVec Ideal S2x8192x1024 .f32) (ya : FVec Ideal S2x8192x1024 .bf16)
    (ga gb : FVec Ideal S2x8192x1024 .f32) (wr wa : FVec Ideal S1x1024x1024 .f32) (b : Fin 2) (l : Fin 8192) (k : Fin 1024) : EReal :=
  gate (ga (ix3 b l k)) * (∑ p : Fin 1024, branch h rg b l p * wr (ix3 0 p k))
    + gate (gb (ix3 b l k)) * (∑ p : Fin 1024, ya (ix3 b l p) * wa (ix3 0 p k))

variable (h : FVec Ideal S2x2x8192x1024 .f32) (rg : FVec Ideal S2x8192x1024 .f32) (ya : FVec Ideal S2x8192x1024 .bf16)
  (ga gb x : FVec Ideal S2x8192x1024 .f32) (md : FVec Ideal S8x6x1024 .f32) (wr wa wo : FVec Ideal S1x1024x1024 .f32)
  (nw : FVec Ideal S1x1024 .f32)

/-- The tokens after the merge's residual step, one entry. -/
def resid (b : Fin 2) (l : Fin 8192) (k : Fin 1024) : EReal :=
  x (ix3 b l k) + md (ix3 ⟨b.val, Nat.lt_trans b.isLt (by decide)⟩ 2 k) * ∑ p : Fin 1024, mixed h rg ya ga gb wr wa b l p * wo (ix3 0 p k)

/-- The normalised, modulated tokens handed to the feed-forward part, one entry. -/
def handed (b : Fin 2) (l : Fin 8192) (k : Fin 1024) : EReal :=
  resid h rg ya ga gb x md wr wa wo b l k * rinv (fun p => resid h rg ya ga gb x md wr wa wo b l p) * nw (ix2 0 k)
      * (1 + md (ix3 ⟨b.val, Nat.lt_trans b.isLt (by decide)⟩ 4 k))
    + md (ix3 ⟨b.val, Nat.lt_trans b.isLt (by decide)⟩ 3 k)

variable (m : (ℓ : Loc nD τ sig) → Buf (Elt Ideal) ℓ)

theorem idx : ∀ t : Fin cfg0.N, win0_0.index t = ![0, t.val / 32, t.val % 32, 0] ∧ win0_1.index t = ![1, t.val / 32, t.val % 32, 0]
    ∧ win0_2.index t = ![t.val / 32, t.val % 32, 0] ∧ win0_3.index t = ![t.val / 32, t.val % 32, 0]
    ∧ win0_4.index t = ![t.val / 32, t.val % 32, 0] ∧ win0_5.index t = ![t.val / 32, t.val % 32, 0]
    ∧ win0_6.index t = ![t.val / 32, t.val % 32, 0] ∧ win0_7.index t = ![t.val / 32, 0, 0]
    ∧ win0_8.index t = ![0, 0] ∧ win0_9.index t = ![0, 0] ∧ win0_10.index t = ![0, 0] ∧ win0_11.index t = ![0, 0]
    ∧ win0_12.index t = ![t.val / 32, t.val % 32, 0] ∧ win0_13.index t = ![t.val / 32, t.val % 32, 0] ∧ t.val / 32 < 2 :=
  (by decide +kernel : ∀ t : Fin grid0.N, _)

theorem row_lt (t : Fin cfg0.N) (r : Fin 256) : t.val % 32 * 256 + r.val < 8192 := by omega

/-- What one block computes: its row `r` of the residual step is row `256·(t mod 32) + r` of batch `t / 32`. -/
theorem block_resid (c : Dev nD) (t : Fin cfg0.N) :
    k0_pay4 (k0_pay7 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay8 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 4 t) (iblk m c 5 t)
      (iblk m c 10 t) (iblk m c 6 t) (View.ld (iblk m c 7 t) r0_3)
    = fun i : S256x1024.Idx => resid (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9))
      ⟨t.val / 32, (idx t).2.2.2.2.2.2.2.2.2.2.2.2.2.2⟩ ⟨t.val % 32 * 256 + (i 0).val, row_lt t (i 0)⟩ (i 1) := by
  funext i
  pointwise [k0_pay4, k0_pay7, k0_pay8, k0_pay2, k0_pay3, gelu_left, gate_zero_sub]
  unfold resid mixed branch
  blk_point [iblk, V, idx t]

/-- A block's second store from its first: normalised over the row, scaled and shifted. -/
theorem block_handed (a0 a1 : FVec Ideal S1x1x256x1024 .f32) (a2 : FVec Ideal S1x256x1024 .f32) (a3 : FVec Ideal S1x256x1024 .bf16)
    (a4 a5 a6 : FVec Ideal S1x256x1024 .f32) (a7 : FVec Ideal S1x6x1024 .f32) (a8 a9 a10 : FVec Ideal S1024x1024 .bf16)
    (a11 : FVec Ideal S1x1024 .f32) (X : FVec Ideal S256x1024 .f32)
    (hX : k0_pay4 (F := Ideal) (k0_pay7 a0 a1 a2 a3 a4 a5 a6 a7 a8 a9 a10 a11) (k0_pay8 a0 a1 a2 a3 a4 a5 a6 a7 a8 a9 a10 a11) a4 a5 a10 a6 (View.ld a7 r0_3) = X) (y : S1x256x1024.Idx) :
    k0_pay1 (k0_pay4 (F := Ideal) (k0_pay7 a0 a1 a2 a3 a4 a5 a6 a7 a8 a9 a10 a11) (k0_pay8 a0 a1 a2 a3 a4 a5 a6 a7 a8 a9 a10 a11) a4 a5 a10 a6 (View.ld a7 r0_3)) (k0_pay6 (k0_pay7 a0 a1 a2 a3 a4 a5 a6 a7 a8 a9 a10 a11) (k0_pay8 a0 a1 a2 a3 a4 a5 a6 a7 a8 a9 a10 a11) a4 a5 a10 a6 (View.ld a7 r0_3)) a11 (View.ld a7 r0_5) (View.ld a7 r0_6) y
    = X (ix2 (y 1) (y 2)) * rinv (fun p => X (ix2 (y 1) p)) * a11 (ix2 0 (y 2)) * (1 + a7 (ix3 0 4 (y 2)))
      + a7 (ix3 0 3 (y 2)) := by
  subst hX
  unfold rinv
  pointwise [k0_pay1, k0_pay6]

/-- The first result, whole. -/
theorem final12 (c : Dev nD) : (dats m 0 c).arrAt 12 cfg0.N = fun j : S2x8192x1024.Idx =>
    resid (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (j 0) (j 1) (j 2) := by
  refine (dats m 0 c).arrAt_eq_of_covers 12 _ (by decide +kernel) fun t _ y => ?_
  blk_simp
  rw [after0_12]; frame_out
  pointwise [k0_pay5]
  refine (congrFun (block_resid m c t) _).trans ?_
  blk_point [idx t]

/-- The second result, whole. -/
theorem final13 (c : Dev nD) : (dats m 0 c).arrAt 13 cfg0.N = fun j : S2x8192x1024.Idx =>
    handed (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (j 0) (j 1) (j 2) := by
  refine (dats m 0 c).arrAt_eq_of_covers 13 _ (by decide +kernel) fun t _ y => ?_
  blk_simp
  rw [after0_13]; frame_out
  refine (block_handed (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ (block_resid m c t) y).trans ?_
  unfold handed rinv
  blk_point [iblk, V, idx t]
  refine congrArg₂ (· * ·) ?_ ?_ <;> blk_point [idx t]

end Cert.MergeIdeal.Call

end
-- ==== Proof.MergeReference.lean ====
/- The gated merge, reference side: its two results read entry by entry. -/
module

public import proofs.«01_k».proof.Proof.MergeKernel
public import proofs.«01_k».proof.Proof.Gen.MergeRefIdeal.Read

@[expose] public section

set_option maxRecDepth 16384

noncomputable section

namespace Cert.MergeRefIdeal.Formula

open Idealize.ShloMosaic Cert.MergeRefIdeal Cert.MergeRefIdeal.Read Cert.Layer
open Cert.MergeIdeal.Call (branch mixed resid handed)

variable (x0 : FVec Ideal S2x2x8192x1024 .f32) (x1 : FVec Ideal S2x8192x1024 .f32) (x2 : FVec Ideal S2x8192x1024 .bf16)
  (x3 x4 x5 : FVec Ideal S2x8192x1024 .f32) (x6 : FVec Ideal S8x6x1024 .f32) (x7 x8 x9 : FVec Ideal S1x1024x1024 .f32)
  (x10 : FVec Ideal S1x1024 .f32)

/-- The reference's residual step. -/
theorem first (j : S2x8192x1024.Idx) : val_main_v61 (F := Ideal) x0 x1 x2 x3 x4 x5 x6 x7 x8 x9 j = resid x0 x1 x2 x3 x4 x5 x6 x7 x8 x9 (j 0) (j 1) (j 2) := by
  idx_vars j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_v25, val_main_v26, val_main_v27, val_main_cst_0, val_main_v28, val_main_v29, val_main_v30, val_main_cst_1, val_main_v31, val_main_v32, val_main_cst_2, val_main_v33, val_main_v34, val_main_v35, val_main_v36, val_main_v37, val_main_v38, val_main_cst_3, val_main_v39, val_main_v40, val_main_cst_4, val_main_v41, val_main_v42, val_main_v43, val_main_v44, val_main_v45, val_main_v46, val_main_v47, val_main_cst_5, val_main_v48, val_main_v49, val_main_cst_6, val_main_v50, val_main_v51, val_main_v52, val_main_v53, val_main_v54, val_main_v55, val_main_v56, val_main_v57, val_main_v58, val_main_v59, val_main_v60, val_main_v61]

  unfold resid mixed branch gelu gate
  rfl

/-- The reference's normalised tokens. -/
theorem second (j : S2x8192x1024.Idx) : val_main_v82 (F := Ideal) x0 x1 x2 x3 x4 x5 x6 x7 x8 x9 x10 j = handed x0 x1 x2 x3 x4 x5 x6 x7 x8 x9 x10 (j 0) (j 1) (j 2) := by
  idx_vars j
  pointwise [val_main_v9, val_main_v10, val_main_v11, val_main_v12, val_main_v13, val_main_v14, val_main_v62, val_main_v63, val_main_cst_7, val_main_v64, val_main_v65, val_main_cst_8, val_main_v66, val_main_v67, val_main_cst_9, val_main_v68, val_main_v69, val_main_v70, val_main_v71, val_main_v72, val_main_v73, val_main_v74, val_main_v75, val_main_cst_10, val_main_v76, val_main_v77, val_main_v78, val_main_v79, val_main_v80, val_main_v81, val_main_v82]

  simp only [first]
  unfold handed rinv
  rfl

end Cert.MergeRefIdeal.Formula

end
-- ==== Proof.MergeClaim.lean ====
/- The gated merge: the call and the reference agree at both results. -/
module

public import proofs.«01_k».proof.Defs
public import proofs.«01_k».proof.Proof.MergeKernel
public import proofs.«01_k».proof.Proof.MergeReference
public import proofs.«01_k».proof.Proof.Gen.MergeRefIdeal.Run

@[expose] public section

set_option maxRecDepth 16384

noncomputable section

namespace Cert.Proof.MergeClaims

open Idealize.ShloMosaic Idealize.SL.Sem

/-- Over the extended reals the merge's two results are the reference's. -/
theorem algebraic : Cert.algebraic_MergeIdeal_MergeRefIdeal := by
  pair_intro
  · run_from Cert.MergeIdeal.Value.run_blocks m g
  · run_from Cert.MergeRefIdeal.Value.run m' g'
    · refine Eq.trans ?_ (Cert.MergeIdeal.Call.final12 m c).symm
      funext j
      refine (congrFun (Cert.MergeRefIdeal.Read.val_main_v61_eq _ _ _ _ _ _ _ _ _ _) j).trans ?_
      exact Cert.MergeRefIdeal.Formula.first _ _ _ _ _ _ _ _ _ _ j
    · refine Eq.trans ?_ (Cert.MergeIdeal.Call.final13 m c).symm
      obtain ⟨h0, h1, h2, h3, h4, h5, h6, h7, h8, h9, h10⟩ := hagree c
      rw [Cert.MergeRefIdeal.Read.val_main_v82_eq, h0, h1, h2, h3, h4, h5, h6, h7, h8, h9, h10]
      funext j
      exact Cert.MergeRefIdeal.Formula.second _ _ _ _ _ _ _ _ _ _ _ j

end Cert.Proof.MergeClaims

end
-- ==== Proof.ProjFormula.lean ====
/- The input projection as formulas over its arguments: both the call and the reference are read down to these. -/
module

public import proofs.«01_k».proof.Proof.Formulas
public import Idealize.ShloMosaic.Lib.Pipeline.ValueKit

@[expose] public section

set_option maxRecDepth 16384

noncomputable section

namespace Cert.InProj

open Idealize.ShloMosaic Cert.Layer

/-- The angle of position `p` on its axis at frequency `i` of 32: `p · 10000 ^ (-(2 · i) / 64)`. -/
def angle (p i : ℕ) : EReal :=
  FloatOps.sitofp (F := Ideal) .f32 (BitVec.ofNat 32 p)
    * Ideal.pow (Ideal.ofBits .f32 0x461C4000#32)
        (Ideal.div (-(Ideal.ofBits .f32 0x40000000#32 * FloatOps.sitofp (F := Ideal) .f32 (BitVec.ofNat 32 i))) (Ideal.ofBits .f32 0x42800000#32))

/-- The angle at token `l` of a grid of 64 columns: axis 0 turns by the token's row, axis 1 by its column. -/
def turn (l a i : ℕ) : EReal := angle (if a = 0 then l / 64 else l % 64) i

/-- The factor that the queries carry, `1 / √128` to single precision. -/
def scale : EReal := Ideal.ofBits .f32 0x3DB504F3#32

variable (x : FVec Ideal ⟨3, ![2, 8192, 1024]⟩ .f32) (md : FVec Ideal ⟨3, ![8, 6, 1024]⟩ .f32) (nw : FVec Ideal ⟨2, ![1, 1024]⟩ .f32)
  (w : FVec Ideal ⟨3, ![1, 1024, 5632]⟩ .f32)

/-- The token normalised over its channels, scaled and modulated by its batch's modulation rows. -/
def normed (b : Fin 2) (l : Fin 8192) (k : Fin 1024) : EReal :=
  x (ix3 b l k) * rinv (fun p => x (ix3 b l p)) * nw (ix2 0 k) * (1 + md (ix3 ⟨b.val, Nat.lt_trans b.isLt (by decide)⟩ 1 k))
    + md (ix3 ⟨b.val, Nat.lt_trans b.isLt (by decide)⟩ 0 k)

/-- The projected token at column `n` of the weight. -/
def entry (b : Fin 2) (l : Fin 8192) (n : ℕ) : EReal :=
  if H : n < 5632 then ∑ k : Fin 1024, normed x md nw b l k * w (ix3 0 k ⟨n, H⟩) else 0

/-- The head of 128 columns from `o` on, turned, at place `p`. In the weight a head is: axis (2), half (2), frequency (32). In the
    result the halves come first: places 0 to 63 hold the first half of both axes, 64 to 127 the second. -/
def turned (b : Fin 2) (l : Fin 8192) (o p : ℕ) : EReal :=
  if p < 64 then
    entry x md nw w b l (o + p / 32 * 64 + p % 32) * Ideal.cos (turn l.val (p / 32) (p % 32))
      - entry x md nw w b l (o + p / 32 * 64 + 32 + p % 32) * Ideal.sin (turn l.val (p / 32) (p % 32))
  else
    entry x md nw w b l (o + (p - 64) / 32 * 64 + 32 + p % 32) * Ideal.cos (turn l.val ((p - 64) / 32) (p % 32))
      + entry x md nw w b l (o + (p - 64) / 32 * 64 + p % 32) * Ideal.sin (turn l.val ((p - 64) / 32) (p % 32))

/-- The queries: eight turned heads from column 2048 on, scaled. -/
def query (b : Fin 2) (l : Fin 8192) (n : ℕ) : EReal := turned x md nw w b l (2048 + n / 128 * 128) (n % 128) * scale

/-- The keys: two turned heads from column 3072 on. -/
def key (b : Fin 2) (l : Fin 8192) (n : ℕ) : EReal := turned x md nw w b l (3072 + n / 128 * 128) (n % 128)

end Cert.InProj

end
-- ==== Proof.ProjTables.lean ====
/- The input projection, call side: what the host prepares for the call, and each block of its arguments. -/
module

public import proofs.«01_k».proof.Proof.ProjFormula
public import proofs.«01_k».proof.Proof.Gen.ProjIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.ProjIdeal.Call

open Idealize.ShloMosaic Idealize.ShloMosaic.TcCoe Idealize.SL.Sem
open Idealize.ShloMosaic.Pipeline (Dat)
open Cert.InProj Cert.ProjIdeal Cert.ProjIdeal.Gen Cert.Layer

variable (m : (ℓ : Loc nD τ sig) → Buf (Elt Ideal) ℓ)

/-- The block of every argument and result at a grid point: batch `t / 16`, rows `512 · (t mod 16)` on. -/
theorem idx : ∀ t : Fin cfg0.N, win0_0.index t = ![t.val / 16, t.val % 16, 0] ∧ win0_1.index t = ![t.val / 16, 0, 0]
    ∧ win0_2.index t = ![0, 0] ∧ win0_3.index t = ![0, 0] ∧ win0_4.index t = ![t.val % 16, 0] ∧ win0_5.index t = ![t.val % 16, 0]
    ∧ win0_6.index t = ![t.val % 16, 0] ∧ win0_7.index t = ![t.val % 16, 0] ∧ win0_8.index t = ![t.val / 16, t.val % 16, 0]
    ∧ win0_9.index t = ![t.val / 16, t.val % 16, 0] ∧ win0_10.index t = ![t.val / 16, t.val % 16, 0]
    ∧ win0_11.index t = ![t.val / 16, t.val % 16, 0] ∧ win0_12.index t = ![t.val / 16, t.val % 16, 0]
    ∧ win0_13.index t = ![t.val / 16, t.val % 16, 0] ∧ win0_14.index t = ![t.val / 16, t.val % 16, 0] ∧ t.val / 16 < 2 :=
  (by decide +kernel : ∀ t : Fin grid0.N, _)

/-- The column of the weight that column `n` of the rearranged weight holds: in a query or key head the two rotated halves come before the axes. -/
def source (n : ℕ) : ℕ :=
  if 2048 ≤ n ∧ n < 3328 then n / 128 * 128 + n % 64 / 32 * 64 + n % 128 / 64 * 32 + n % 32 else n

/-- The gather of columns, read: column `n` of the result is the column its table names. -/
theorem gather_columns (x : FVec Ideal S1024x5632 .f32) (w : IVec S5632x1 32) (k : Fin 1024) (n : Fin 5632) :
    Host.gather gather_S1024x5632_S5632x1_S1024x5632_0_1_n_n_1_1_10241 x w (ix2 k n)
    = x (ix2 k ⟨min (w (ix2 n 0)).toInt.toNat 5631, by omega⟩) := by
  unfold Host.gather
  congr 1
  funext a
  refine Fin.ext ?_
  show gather_S1024x5632_S5632x1_S1024x5632_0_1_n_n_1_1_10241.start (ix2 k n) w a + gather_S1024x5632_S5632x1_S1024x5632_0_1_n_n_1_1_10241.batchCoord (ix2 k n) a
      + gather_S1024x5632_S5632x1_S1024x5632_0_1_n_n_1_1_10241.offCoord (ix2 k n) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    unfold GatherDims.offCoord
    rw [dif_pos (by decide)]
    exact Nat.zero_add _
  · rw [GatherDims.offCoord_eq_zero _ _ _ (by decide)]
    simp only [Nat.add_zero]
    unfold GatherDims.start
    rw [dif_pos (by decide)]
    have hsi : gather_S1024x5632_S5632x1_S1024x5632_0_1_n_n_1_1_10241.siIdx (ix2 k n)
        ⟨List.idxOf (1 : Fin 2) gather_S1024x5632_S5632x1_S1024x5632_0_1_n_n_1_1_10241.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl

/-- The rearranged weight is a gather of the weight by the table of columns, -/
theorem v24 (c : Dev nD) : V m c main_v24 = Host.gather gather_S1024x5632_S5632x1_S1024x5632_0_1_n_n_1_1_10241 (V m c main_v0) (V m c main_v23) := by
  unfold V
  after_reads_simp

/-- and the table, counted with iotas, is `source`, -/
theorem v23 (c : Dev nD) (n : Fin 5632) :
    V m c main_v23 (ix2 n 0) = BitVec.ofNat 32 (source n.val) := by
  unfold V
  after_reads_at
  simp only [id]
  pointwise
  revert n
  decide +kernel

/-- whose words are columns of the weight; -/
theorem source_lt : ∀ n : Fin 5632, source n.val < 5632 ∧ (BitVec.ofNat 32 (source n.val)).toInt.toNat = source n.val := by decide +kernel

/-- so column `n` of the rearranged weight is column `source n`. -/
theorem v25 (c : Dev nD) (k : Fin 1024) (n : Fin 5632) :
    V m c main_v25 (ix2 k n) = m ((c : Thread nD τ).loc main_arg3) (ix3 0 k ⟨source n.val, (source_lt n).1⟩) := by
  have e : V m c main_v25 (ix2 k n) = V m c main_v24 (ix2 k n) := by
    unfold V
    after_reads_at
  have e0 : ∀ q : Fin 5632, V m c main_v0 (ix2 k q) = m ((c : Thread nD τ).loc main_arg3) (ix3 0 k q) := fun q => by
    unfold V
    after_reads_at
  rw [e, v24, gather_columns]
  refine (e0 _).trans (congrArg (fun q : Fin 5632 => m ((c : Thread nD τ).loc main_arg3) (ix3 (0 : Fin 1) k q)) (Fin.ext ?_))
  have h := source_lt n
  have hw : (V m c main_v23 (ix2 n 0)).toInt.toNat = source n.val := (congrArg (fun w : BitVec 32 => w.toInt.toNat) (v23 m c n)).trans h.2
  exact (congrArg (min · 5631) hw).trans (Nat.min_eq_left (Nat.le_of_lt_succ h.1))

/-- A row of 128 made of four quarters: half `n / 64`, axis `n % 64 / 32`, frequency `n % 32`. -/
theorem quarters (f : ℕ → ℕ → ℕ → EReal) (n : Fin 128) :
    (if h : n.val < 32 then f 0 0 n.val else if h : n.val - 32 < 32 then f 0 1 (n.val - 32)
      else if h : n.val - 32 - 32 < 32 then f 1 0 (n.val - 32 - 32) else f 1 1 (n.val - 32 - 32 - 32))
    = f (n.val / 64) (n.val % 64 / 32) (n.val % 32) := by
  have hn := n.isLt
  split
  · rw [show n.val / 64 = 0 by omega, show n.val % 64 / 32 = 0 by omega, show n.val % 32 = n.val by omega]
  split
  · rw [show n.val / 64 = 0 by omega, show n.val % 64 / 32 = 1 by omega, show n.val % 32 = n.val - 32 by omega]
  split
  · rw [show n.val / 64 = 1 by omega, show n.val % 64 / 32 = 0 by omega, show n.val % 32 = n.val - 32 - 32 by omega]
  · rw [show n.val / 64 = 1 by omega, show n.val % 64 / 32 = 1 by omega, show n.val % 32 = n.val - 32 - 32 - 32 by omega]

/-- The sine, negated in the first half: what the call adds of the other half. -/
def signed (h : ℕ) (z : EReal) : EReal := if h = 0 then -Ideal.sin z else Ideal.sin z

/-- The table of cosines. -/
theorem v59 (c : Dev nD) (l : Fin 8192) (n : Fin 128) : V m c main_v59 (ix2 l n) = Ideal.cos (turn l.val (n.val % 64 / 32) (n.val % 32)) := by
  unfold V
  after_reads_at
  after_reads_at
  exact quarters (fun _ a i => Ideal.cos (turn l.val a i)) n

/-- The table of sines, its first half negated. -/
theorem v66 (c : Dev nD) (l : Fin 8192) (n : Fin 128) :
    V m c main_v66 (ix2 l n) = signed (n.val / 64) (turn l.val (n.val % 64 / 32) (n.val % 32)) := by
  unfold V
  after_reads_at
  after_reads_at
  exact quarters (fun h a i => signed h (turn l.val a i)) n

/-- The two tables with the queries' factor. -/
theorem v68 (c : Dev nD) (l : Fin 8192) (n : Fin 128) : V m c main_v68 (ix2 l n) = Ideal.cos (turn l.val (n.val % 64 / 32) (n.val % 32)) * scale := by
  unfold V
  after_reads_at
  after_reads_at
  exact congrArg (· * scale) (quarters (fun _ a i => Ideal.cos (turn l.val a i)) n)

theorem v70 (c : Dev nD) (l : Fin 8192) (n : Fin 128) :
    V m c main_v70 (ix2 l n) = signed (n.val / 64) (turn l.val (n.val % 64 / 32) (n.val % 32)) * scale := by
  unfold V
  after_reads_at
  after_reads_at
  exact congrArg (· * scale) (quarters (fun h a i => signed h (turn l.val a i)) n)

/-- The norm's weight. -/
theorem v72 (c : Dev nD) (k : Fin 1024) : V m c main_v72 (ix2 0 k) = m ((c : Thread nD τ).loc main_arg2) (ix2 0 k) := by
  unfold V
  after_reads_at

/-- The blocks of the arguments: the rearranged weight, -/
theorem w3 (c : Dev nD) (t : Fin cfg0.N) (k : Fin 1024) (n : Fin 5632) : iblk m c 3 t (ix2 k n) = V m c main_v25 (ix2 k n) := by
  blk_point [iblk, idx t]
/-- the four tables at the block's rows, -/
theorem w4 (c : Dev nD) (t : Fin cfg0.N) (r : Fin 512) (n : Fin 128) : iblk m c 4 t (ix2 r n) = V m c main_v68 (ix2 ⟨t.val % 16 * 512 + r.val, by omega⟩ n) := by
  blk_point [iblk, idx t]
theorem w5 (c : Dev nD) (t : Fin cfg0.N) (r : Fin 512) (n : Fin 128) : iblk m c 5 t (ix2 r n) = V m c main_v70 (ix2 ⟨t.val % 16 * 512 + r.val, by omega⟩ n) := by
  blk_point [iblk, idx t]
theorem w6 (c : Dev nD) (t : Fin cfg0.N) (r : Fin 512) (n : Fin 128) : iblk m c 6 t (ix2 r n) = V m c main_v59 (ix2 ⟨t.val % 16 * 512 + r.val, by omega⟩ n) := by
  blk_point [iblk, idx t]
theorem w7 (c : Dev nD) (t : Fin cfg0.N) (r : Fin 512) (n : Fin 128) : iblk m c 7 t (ix2 r n) = V m c main_v66 (ix2 ⟨t.val % 16 * 512 + r.val, by omega⟩ n) := by
  blk_point [iblk, idx t]
/-- the norm's weight, -/
theorem w2 (c : Dev nD) (t : Fin cfg0.N) (k : Fin 1024) : iblk m c 2 t (ix2 0 k) = V m c main_v72 (ix2 0 k) := by
  blk_point [iblk, idx t]
/-- the tokens, -/
theorem w0 (c : Dev nD) (t : Fin cfg0.N) (r : Fin 512) (k : Fin 1024) : iblk m c 0 t (ix3 0 r k)
    = m ((c : Thread nD τ).loc main_arg0) (ix3 ⟨t.val / 16, (idx t).2.2.2.2.2.2.2.2.2.2.2.2.2.2.2⟩ ⟨t.val % 16 * 512 + r.val, by omega⟩ k) := by
  blk_point [iblk, V, idx t]
/-- the modulation of the batch. -/
theorem w1 (c : Dev nD) (t : Fin cfg0.N) (r : Fin 6) (k : Fin 1024) : iblk m c 1 t (ix3 0 r k)
    = m ((c : Thread nD τ).loc main_arg1) (ix3 ⟨t.val / 16, Nat.lt_trans (idx t).2.2.2.2.2.2.2.2.2.2.2.2.2.2.2 (by decide)⟩ r k) := by
  blk_point [iblk, V, idx t]

end Cert.ProjIdeal.Call

end
-- ==== Proof.ProjUnit.lean ====
/- One block of 512 tokens of the input projection: the normalised rows, a product with a tile of columns, a turned head. -/
module

public import proofs.«01_k».proof.Proof.ProjTables

@[expose] public section

set_option maxRecDepth 16384

noncomputable section

namespace Cert.ProjIdeal.Call

open Idealize.ShloMosaic Idealize.ShloMosaic.TcCoe Idealize.SL.Sem
open Idealize.ShloMosaic.Pipeline (Dat)
open Cert.InProj Cert.ProjIdeal Cert.ProjIdeal.Gen Cert.Layer

/-- The rows of a block: normalised, scaled, modulated. -/
theorem rows_apply (X : FVec Ideal S1x512x1024 .f32) (g : FVec Ideal S1x1024 .f32) (s1 s0 : FVec Ideal S1x1x1024 .f32) (r : Fin 512) (k : Fin 1024) :
    k0_pay2 (F := Ideal) X g s1 s0 (ix2 r k)
      = X (ix3 0 r k) * rinv (fun p => X (ix3 0 r p)) * g (ix2 0 k) * (1 + s1 (ix3 0 0 k)) + s0 (ix3 0 0 k) := by
  unfold rinv
  pointwise [k0_pay2]

section tiles

variable (H : FVec Ideal S512x1024 .bf16) (W : FVec Ideal S1024x1024 .bf16) (W' : FVec Ideal S1024x256 .bf16)

theorem tile8 (r : Fin 512) (n : Fin 1024) : k0_pay4 (F := Ideal) (k0_pay3 H W) (ix3 0 r n) = ∑ k : Fin 1024, H (ix2 r k) * W (ix2 k n) := by
  pointwise [k0_pay4, k0_pay3]

theorem tile9 (r : Fin 512) (n : Fin 1024) : k0_pay5 (F := Ideal) H W (ix3 0 r n) = ∑ k : Fin 1024, H (ix2 r k) * W (ix2 k n) := by
  pointwise [k0_pay5]

theorem tile13 (r : Fin 512) (n : Fin 1024) : k0_pay26 (F := Ideal) H W (ix3 0 r n) = ∑ k : Fin 1024, H (ix2 r k) * W (ix2 k n) := by
  pointwise [k0_pay26]

theorem tile14 (r : Fin 512) (n : Fin 1024) : k0_pay1 (F := Ideal) (k0_pay27 H W) (ix3 0 r n) = ∑ k : Fin 1024, H (ix2 r k) * W (ix2 k n) := by
  pointwise [k0_pay1, k0_pay27]

theorem tile12 (r : Fin 512) (n : Fin 256) : k0_pay25 (F := Ideal) H W' (ix3 0 r n) = ∑ k : Fin 1024, H (ix2 r k) * W' (ix2 k n) := by
  pointwise [k0_pay25]

theorem tile10 (r : Fin 512) (n : Fin 1024) : k0_pay6 (F := Ideal) H W (ix2 r n) = ∑ k : Fin 1024, H (ix2 r k) * W (ix2 k n) := by
  pointwise [k0_pay6]

theorem tile11 (r : Fin 512) (n : Fin 256) : k0_pay19 (F := Ideal) H W' (ix2 r n) = ∑ k : Fin 1024, H (ix2 r k) * W' (ix2 k n) := by
  pointwise [k0_pay19]

end tiles

/-- A head of a product of width `N`, from column `o`, turned: its columns times the cosines, its halves exchanged times the signed sines. -/
abbrev headT {N : ℕ} (P : FVec Ideal ⟨2, ![512, N]⟩ .f32) (C S : FVec Ideal S512x128 .f32) (o : ℕ) (hs : (⟨2, ![512, N]⟩ : Shape).Slices ![0, o] S512x128) :
    FVec Ideal S1x512x128 .bf16 :=
  shapeCast S1x512x128 (truncf .bf16 (addf
    (mulf (extractStridedSlice S512x128 ![0, o] P hs) (shapeCast S512x128 C shapeCasts_S512x128_S512x128))
    (mulf (dynamicRotate 1 64#32 none (extractStridedSlice S512x128 ![0, o] P hs) rotates_S512x128_d1) (shapeCast S512x128 S shapeCasts_S512x128_S512x128)))
    bitsLt_bf16_f32) shapeCasts_S512x128_S1x512x128

theorem headT_apply {N : ℕ} (P : FVec Ideal ⟨2, ![512, N]⟩ .f32) (C S : FVec Ideal S512x128 .f32) (o : ℕ) (hs) (ho : o + 128 ≤ N) (r : Fin 512) (p : Fin 128) :
    headT P C S o hs (ix3 0 r p)
      = P (ix2 r ⟨o + p.val, by omega⟩) * C (ix2 r p) + P (ix2 r ⟨o + (p.val + 64) % 128, by omega⟩) * S (ix2 r p) := by
  pointwise [headT]
  refine congrArg₂ (· + ·) (congrArg (· * _) (congrArg P ?_)) (congrArg (· * _) (congrArg P ?_)) <;> funext a <;>
    refine Fin.ext ?_ <;> match a with
  | ⟨0, _⟩ => exact Nat.zero_add _
  | ⟨1, _⟩ =>
    first
    | rfl
    | exact congrArg (fun q => o + q % 128) (show p.val + 128 - 64 = p.val + 64 by omega)

/-- The queries' factor is a positive real. -/
theorem scale_real : scale = (((11863283 : ℝ) / 134217728 : ℝ) : EReal) := by
  unfold scale
  simp [Ideal.ofBits, Ideal.ieee, -EReal.coe_mul]; norm_num

/-- A turned head read from the rearranged columns: the source of place `p` is on the same axis and frequency, and the place 64
    further, around, holds the other half. -/
theorem turned_source (E : ℕ → EReal) (z : ℕ → ℕ → EReal) (o p : ℕ) (ho : o % 128 = 0) (h0 : 2048 ≤ o) (h1 : o + 128 ≤ 3328) (hp : p < 128) :
    E (source (o + p)) * Ideal.cos (z (p % 64 / 32) (p % 32)) + E (source (o + (p + 64) % 128)) * signed (p / 64) (z (p % 64 / 32) (p % 32))
    = if p < 64 then E (o + p / 32 * 64 + p % 32) * Ideal.cos (z (p / 32) (p % 32))
          - E (o + p / 32 * 64 + 32 + p % 32) * Ideal.sin (z (p / 32) (p % 32))
      else E (o + (p - 64) / 32 * 64 + 32 + p % 32) * Ideal.cos (z ((p - 64) / 32) (p % 32))
          + E (o + (p - 64) / 32 * 64 + p % 32) * Ideal.sin (z ((p - 64) / 32) (p % 32)) := by
  unfold source signed
  rw [if_pos (by omega), if_pos (by omega)]
  split
  · rw [if_pos (by omega), mul_neg, ← sub_eq_add_neg]
    refine congrArg₂ (· - ·) (congrArg₂ (· * ·) (congrArg E ?_) ?_) (congrArg₂ (· * ·) (congrArg E ?_) ?_)
    · omega
    · rw [show p % 64 / 32 = p / 32 by omega]
    · omega
    · rw [show p % 64 / 32 = p / 32 by omega]
  · rw [if_neg (by omega)]
    refine congrArg₂ (· + ·) (congrArg₂ (· * ·) (congrArg E ?_) ?_) (congrArg₂ (· * ·) (congrArg E ?_) ?_)
    · omega
    · rw [show p % 64 / 32 = (p - 64) / 32 by omega]
    · omega
    · rw [show p % 64 / 32 = (p - 64) / 32 by omega]

/-- The factor taken out of the two tables. -/
theorem factor_out (a b c d : EReal) : a * (c * scale) + b * (d * scale) = (a * c + b * d) * scale := by
  rw [← mul_assoc, ← mul_assoc, scale_real]
  exact (EReal.right_distrib_of_nonneg_of_ne_top (EReal.coe_nonneg.mpr (by norm_num)) (EReal.coe_ne_top _) _ _).symm

variable (m : (ℓ : Loc nD τ sig) → Buf (Elt Ideal) ℓ)

abbrev argX (c : Dev nD) : FVec Ideal S2x8192x1024 .f32 := m ((c : Thread nD τ).loc main_arg0)
abbrev argM (c : Dev nD) : FVec Ideal S8x6x1024 .f32 := m ((c : Thread nD τ).loc main_arg1)
abbrev argN (c : Dev nD) : FVec Ideal S1x1024 .f32 := m ((c : Thread nD τ).loc main_arg2)
abbrev argW (c : Dev nD) : FVec Ideal S1x1024x5632 .f32 := m ((c : Thread nD τ).loc main_arg3)

/-- A grid point's batch, and the token of its row `r`. -/
def batch (t : Fin cfg0.N) : Fin 2 := ⟨t.val / 16, (idx t).2.2.2.2.2.2.2.2.2.2.2.2.2.2.2⟩
def token (t : Fin cfg0.N) (r : Fin 512) : Fin 8192 := ⟨t.val % 16 * 512 + r.val, by omega⟩

/-- The block's rows, normalised and modulated. -/
abbrev rowsT (c : Dev nD) (t : Fin cfg0.N) : FVec Ideal S512x1024 .bf16 :=
  k0_pay2 (iblk m c 0 t) (iblk m c 2 t) (View.ld (iblk m c 1 t) (Rect.unit ![0, 1, 0] ![1, 1, 1024] inb_S1x6x1024_S1x1x1024_0_1_0))
    (View.ld (iblk m c 1 t) (Rect.unit ![0, 0, 0] ![1, 1, 1024] inb_S1x6x1024_S1x1x1024_0_0_0))

theorem rows_block (c : Dev nD) (t : Fin cfg0.N) (r : Fin 512) (k : Fin 1024) :
    rowsT m c t (ix2 r k) = normed (argX m c) (argM m c) (argN m c) (batch t) (token t r) k := by
  have e1 : View.ld (iblk m c 1 t) (Rect.unit ![0, 1, 0] ![1, 1, 1024] inb_S1x6x1024_S1x1x1024_0_1_0) (ix3 0 0 k) = iblk m c 1 t (ix3 0 1 k) :=
    View.ld_unit_apply_of (Val := Elt Ideal) (e := EltTy.f32) (S := S1x6x1024) _ _ _ _ _ (ix3 0 1 k) fun a => by
      match a with
      | ⟨0, _⟩ => rfl
      | ⟨1, _⟩ => rfl
      | ⟨2, _⟩ => exact (Nat.zero_add _).symm
  have e0 : View.ld (iblk m c 1 t) (Rect.unit ![0, 0, 0] ![1, 1, 1024] inb_S1x6x1024_S1x1x1024_0_0_0) (ix3 0 0 k) = iblk m c 1 t (ix3 0 0 k) :=
    View.ld_unit_apply_of (Val := Elt Ideal) (e := EltTy.f32) (S := S1x6x1024) _ _ _ _ _ (ix3 0 0 k) fun a => by
      match a with
      | ⟨0, _⟩ => rfl
      | ⟨1, _⟩ => rfl
      | ⟨2, _⟩ => exact (Nat.zero_add _).symm
  refine (rows_apply _ _ _ _ r k).trans ?_
  rw [e1, e0, w1, w1, w2, v72]
  simp only [w0]
  rfl

/-- A tile of `N` columns from column `o`: its product with the block's rows. -/
theorem tile_block (c : Dev nD) (t : Fin cfg0.N) (o N : ℕ) (inb) (r : Fin 512) (n : Fin N) (ho : o + N ≤ 5632) :
    ∑ k : Fin 1024, rowsT m c t (ix2 r k) * View.ld (iblk m c 3 t) (Rect.unit (s := S1024x5632) ![0, o] ![1024, N] inb) (ix2 k n)
      = entry (argX m c) (argM m c) (argN m c) (argW m c) (batch t) (token t r) (source (o + n.val)) := by
  have hn : o + n.val < 5632 := by omega
  have e : ∀ k : Fin 1024, View.ld (iblk m c 3 t) (Rect.unit (s := S1024x5632) ![0, o] ![1024, N] inb) (ix2 k n)
      = argW m c (ix3 0 k ⟨source (o + n.val), (source_lt ⟨o + n.val, hn⟩).1⟩) := fun k =>
    (View.ld_unit_apply_of (Val := Elt Ideal) (e := EltTy.bf16) (S := S1024x5632) _ _ _ _ _ (ix2 k ⟨o + n.val, hn⟩) fun a => by
      match a with
      | ⟨0, _⟩ => exact (Nat.zero_add _).symm
      | ⟨1, _⟩ => rfl).trans ((w3 m c t k _).trans (v25 m c k _))
  unfold entry
  rw [dif_pos (source_lt ⟨o + n.val, hn⟩).1]
  exact Finset.sum_congr rfl fun k _ => congrArg₂ (· * ·) (rows_block m c t r k) (e k)

end Cert.ProjIdeal.Call

end
-- ==== Proof.ProjKernel.lean ====
/- The input projection, call side: its seven results. -/
module

public import proofs.«01_k».proof.Proof.ProjUnit

@[expose] public section

set_option maxRecDepth 16384

noncomputable section

namespace Cert.ProjIdeal.Call

open Idealize.ShloMosaic Idealize.ShloMosaic.TcCoe Idealize.SL.Sem
open Idealize.ShloMosaic.Pipeline (Dat)
open Cert.InProj Cert.ProjIdeal Cert.ProjIdeal.Gen Cert.Layer

variable (m : (ℓ : Loc nD τ sig) → Buf (Elt Ideal) ℓ)

/-- The projected tokens at a column of the call's own arguments. -/
abbrev at_ (c : Dev nD) (b : Fin 2) (l : Fin 8192) (n : ℕ) : EReal := entry (argX m c) (argM m c) (argN m c) (argW m c) b l n

/-- A head of the keys, as the call turns it. -/
theorem key_head (c : Dev nD) (t : Fin cfg0.N) (o : ℕ) (hs) (inb) (r : Fin 512) (p : Fin 128) (ho : o % 128 = 0) (h1 : o + 128 ≤ 256) :
    headT (N := 256) (k0_pay19 (F := Ideal) (rowsT m c t) (View.ld (iblk m c 3 t) (Rect.unit (s := S1024x5632) ![0, 3072] ![1024, 256] inb)))
      (iblk m c 6 t) (iblk m c 7 t) o hs (ix3 0 r p)
    = key (argX m c) (argM m c) (argN m c) (argW m c) (batch t) (token t r) (o + p.val) := by
  have hp := p.isLt
  refine (headT_apply _ _ _ o hs h1 r p).trans ?_
  rw [tile11, tile11, tile_block m c t 3072 256 inb r _ (by decide), tile_block m c t 3072 256 inb r _ (by decide), w6, w7, v59, v66]
  unfold key turned
  rw [show (o + p.val) / 128 * 128 = o by omega, show (o + p.val) % 128 = p.val by omega, ← Nat.add_assoc, ← Nat.add_assoc]
  exact turned_source (at_ m c (batch t) (token t r)) (turn (token t r).val) (3072 + o) p.val (by omega) (by omega) (by omega) hp

/-- A head of the queries, as the call turns it: the two tables carry the factor. -/
theorem query_head (c : Dev nD) (t : Fin cfg0.N) (o : ℕ) (hs) (inb) (r : Fin 512) (p : Fin 128) (ho : o % 128 = 0) (h1 : o + 128 ≤ 1024) :
    headT (N := 1024) (k0_pay6 (F := Ideal) (rowsT m c t) (View.ld (iblk m c 3 t) (Rect.unit (s := S1024x5632) ![0, 2048] ![1024, 1024] inb)))
      (iblk m c 4 t) (iblk m c 5 t) o hs (ix3 0 r p)
    = query (argX m c) (argM m c) (argN m c) (argW m c) (batch t) (token t r) (o + p.val) := by
  have hp := p.isLt
  refine (headT_apply _ _ _ o hs h1 r p).trans ?_
  rw [tile10, tile10, tile_block m c t 2048 1024 inb r _ (by decide), tile_block m c t 2048 1024 inb r _ (by decide), w4, w5, v68, v70, factor_out]
  unfold query turned
  rw [show (o + p.val) / 128 * 128 = o by omega, show (o + p.val) % 128 = p.val by omega, ← Nat.add_assoc, ← Nat.add_assoc]
  exact congrArg (· * scale) (turned_source (at_ m c (batch t) (token t r)) (turn (token t r).val) (2048 + o) p.val (by omega) (by omega) (by omega) hp)

/-- A value of a batch, a token and a column, carried to another spelling of them. -/
theorem carry (F : Fin 2 → Fin 8192 → ℕ → EReal) {b b' : Fin 2} {l l' : Fin 8192} {n n' : ℕ} (hb : b.val = b'.val) (hl : l.val = l'.val) (hn : n = n') :
    F b l n = F b' l' n' := by
  rw [Fin.ext hb, Fin.ext hl, hn]

/-- An index of a stored block: its first coordinate is zero. -/
theorem stored {N : ℕ} (x : (⟨3, ![1, 512, N]⟩ : Shape).Idx) : x = ix3 (0 : Fin 1) (x 1) (x 2) := by
  funext a
  match a with
  | ⟨0, _⟩ => exact Subsingleton.elim (α := Fin 1) _ _
  | ⟨1, _⟩ => rfl
  | ⟨2, _⟩ => rfl

/-- Outside the heads the columns of the rearranged weight are the weight's own. -/
theorem source_out {n : ℕ} (h : n < 2048 ∨ 3328 ≤ n) : source n = n := by
  unfold source
  rw [if_neg (by omega)]

/-- The first result: the columns from 0 on, -/
theorem final8 (c : Dev nD) : (dats m 0 c).arrAt 8 cfg0.N = fun j : S2x8192x1024.Idx => at_ m c (j 0) (j 1) (0 + (j 2).val) := by
  refine (dats m 0 c).arrAt_eq_of_covers 8 _ (by decide +kernel) fun t _ y => ?_
  have hy : (y 2).val < 1024 := (y 2).isLt
  blk_simp
  rw [after0_8]; unfold outsAt0; frame_open; frame_out
  refine (congrArg _ (stored y)).trans ((tile8 _ _ _ _).trans ((tile_block m c t 0 1024 _ _ _ (by decide)).trans ?_))
  refine carry (at_ m c) (by unfold batch; blk_simp [idx t]) (by unfold token; blk_simp [idx t]) ((source_out (by omega)).trans ?_)
  blk_simp [idx t]

/-- the second: those from 1024 on, -/
theorem final9 (c : Dev nD) : (dats m 0 c).arrAt 9 cfg0.N = fun j : S2x8192x1024.Idx => at_ m c (j 0) (j 1) (1024 + (j 2).val) := by
  refine (dats m 0 c).arrAt_eq_of_covers 9 _ (by decide +kernel) fun t _ y => ?_
  have hy : (y 2).val < 1024 := (y 2).isLt
  blk_simp
  rw [after0_9]; unfold outsAt0; frame_open; frame_out
  refine (congrArg _ (stored y)).trans ((tile9 _ _ _ _).trans ((tile_block m c t 1024 1024 _ _ _ (by decide)).trans ?_))
  refine carry (at_ m c) (by unfold batch; blk_simp [idx t]) (by unfold token; blk_simp [idx t]) ((source_out (by omega)).trans ?_)
  blk_simp [idx t]

/-- the fifth, the values: those from 3328 on, -/
theorem final12 (c : Dev nD) : (dats m 0 c).arrAt 12 cfg0.N = fun j : S2x8192x256.Idx => at_ m c (j 0) (j 1) (3328 + (j 2).val) := by
  refine (dats m 0 c).arrAt_eq_of_covers 12 _ (by decide +kernel) fun t _ y => ?_
  have hy : (y 2).val < 256 := (y 2).isLt
  blk_simp
  rw [after0_12]; unfold outsAt0; frame_open; frame_out
  refine (congrArg _ (stored y)).trans ((tile12 _ _ _ _).trans ((tile_block m c t 3328 256 _ _ _ (by decide)).trans ?_))
  refine carry (at_ m c) (by unfold batch; blk_simp [idx t]) (by unfold token; blk_simp [idx t]) ((source_out (by omega)).trans ?_)
  blk_simp [idx t]

/-- the sixth: those from 3584 on, -/
theorem final13 (c : Dev nD) : (dats m 0 c).arrAt 13 cfg0.N = fun j : S2x8192x1024.Idx => at_ m c (j 0) (j 1) (3584 + (j 2).val) := by
  refine (dats m 0 c).arrAt_eq_of_covers 13 _ (by decide +kernel) fun t _ y => ?_
  have hy : (y 2).val < 1024 := (y 2).isLt
  blk_simp
  rw [after0_13]; unfold outsAt0; frame_open; frame_out
  refine (congrArg _ (stored y)).trans ((tile13 _ _ _ _).trans ((tile_block m c t 3584 1024 _ _ _ (by decide)).trans ?_))
  refine carry (at_ m c) (by unfold batch; blk_simp [idx t]) (by unfold token; blk_simp [idx t]) ((source_out (by omega)).trans ?_)
  blk_simp [idx t]

/-- and the seventh: those from 4608 on. -/
theorem final14 (c : Dev nD) : (dats m 0 c).arrAt 14 cfg0.N = fun j : S2x8192x1024.Idx => at_ m c (j 0) (j 1) (4608 + (j 2).val) := by
  refine (dats m 0 c).arrAt_eq_of_covers 14 _ (by decide +kernel) fun t _ y => ?_
  have hy : (y 2).val < 1024 := (y 2).isLt
  blk_simp
  rw [after0_14]; unfold outsAt0; frame_open; frame_out
  refine (congrArg _ (stored y)).trans ((tile14 _ _ _ _).trans ((tile_block m c t 4608 1024 _ _ _ (by decide)).trans ?_))
  refine carry (at_ m c) (by unfold batch; blk_simp [idx t]) (by unfold token; blk_simp [idx t]) ((source_out (by omega)).trans ?_)
  blk_simp [idx t]

/-- A store of a head of the keys lands in its place of the result. -/
theorem place11 (c : Dev nD) (t : Fin cfg0.N) (o : ℕ) (x : S1x512x128.Idx) (y : ((cfg0.win 11).xblock (cfg0.grid.coords t)).Idx)
    (h1 : (y 1).val = (x 1).val) (h2 : (y 2).val = o + (x 2).val) :
    key (argX m c) (argM m c) (argN m c) (argW m c) (batch t) (token t (x 1)) (o + (x 2).val)
    = key (argX m c) (argM m c) (argN m c) (argW m c) (((View.whole main_v73_3).slice (win0_11.rect t)).emb y 0)
      (((View.whole main_v73_3).slice (win0_11.rect t)).emb y 1) (win0_11.index t 2 * 256 + (y 2).val) := by
  refine carry (key (argX m c) (argM m c) (argN m c) (argW m c)) ?_ ?_ ?_
  · unfold batch; blk_simp [idx t]
  · unfold token; blk_simp [idx t]
    exact congrArg (t.val % 16 * 512 + ·) h1.symm
  · blk_simp [idx t]
    exact h2.symm

/-- A store of a head of the queries lands in its place of the result. -/
theorem place10 (c : Dev nD) (t : Fin cfg0.N) (o : ℕ) (x : S1x512x128.Idx) (y : ((cfg0.win 10).xblock (cfg0.grid.coords t)).Idx)
    (h1 : (y 1).val = (x 1).val) (h2 : (y 2).val = o + (x 2).val) :
    query (argX m c) (argM m c) (argN m c) (argW m c) (batch t) (token t (x 1)) (o + (x 2).val)
    = query (argX m c) (argM m c) (argN m c) (argW m c) (((View.whole main_v73_2).slice (win0_10.rect t)).emb y 0)
      (((View.whole main_v73_2).slice (win0_10.rect t)).emb y 1) (win0_10.index t 2 * 1024 + (y 2).val) := by
  refine carry (query (argX m c) (argM m c) (argN m c) (argW m c)) ?_ ?_ ?_
  · unfold batch; blk_simp [idx t]
  · unfold token; blk_simp [idx t]
    exact congrArg (t.val % 16 * 512 + ·) h1.symm
  · blk_simp [idx t]
    exact h2.symm

/-- The fourth result, the keys: two stores of a head each. -/
theorem final11 (c : Dev nD) : (dats m 0 c).arrAt 11 cfg0.N = fun j : S2x8192x256.Idx =>
    key (argX m c) (argM m c) (argN m c) (argW m c) (j 0) (j 1) (j 2).val := by
  refine (dats m 0 c).arrAt_eq_of_covers 11 _ (by decide +kernel) fun t _ y => ?_
  blk_simp
  rw [after0_11]; unfold outsAt0; frame_open; frame_out
  canon_tiles x h
  all_goals exact (congrArg _ (stored x)).trans ((key_head m c t _ _ _ _ _ (by decide) (by decide)).trans (place11 m c t _ x y h1 (by omega)))

/-- The third result, the queries: eight stores of a head each. -/
theorem final10 (c : Dev nD) : (dats m 0 c).arrAt 10 cfg0.N = fun j : S2x8192x1024.Idx =>
    query (argX m c) (argM m c) (argN m c) (argW m c) (j 0) (j 1) (j 2).val := by
  refine (dats m 0 c).arrAt_eq_of_covers 10 _ (by decide +kernel) fun t _ y => ?_
  blk_simp
  rw [after0_10]; unfold outsAt0; frame_open; frame_out
  canon_tiles x h
  all_goals exact (congrArg _ (stored x)).trans ((query_head m c t _ _ _ _ _ (by decide) (by decide)).trans (place10 m c t _ x y h1 (by omega)))

end Cert.ProjIdeal.Call

end
-- ==== Proof.ProjReference.lean ====
/- The input projection, reference side: its seven results read entry by entry. -/
module

public import proofs.«01_k».proof.Proof.ProjFormula
public import proofs.«01_k».proof.Proof.Gen.ProjRefIdeal.Read
public import Idealize.ShloMosaic.Lib.KernelVsHost
public import Idealize.ShloMosaic.Lib.Pointwise
public import Idealize.ShloMosaic.Lib.Claim

@[expose] public section

set_option maxRecDepth 16384

noncomputable section

namespace Cert.ProjRefIdeal.Formula

open Idealize.ShloMosaic Cert.ProjRefIdeal Cert.ProjRefIdeal.Read Cert.Layer Cert.InProj

variable (x0 : FVec Ideal S2x8192x1024 .f32) (x1 : FVec Ideal S8x6x1024 .f32) (x2 : FVec Ideal S1x1024 .f32) (x3 : FVec Ideal S1x1024x5632 .f32)

/-- The angles by rows, -/
theorem row_angle (l : Fin 8192) (i : Fin 32) : val_main_v40 (F := Ideal) (ix2 l i) = angle (l.val / 64) i.val := by
  pointwise [val_main_v40, val_main_v38, val_main_v39, val_main_v36, val_main_v35, val_main_v20, val_main_v19, val_main_v18, val_main_v37, val_main_v34, val_main_v33, val_main_cst_2, val_main_v32, val_main_v31, val_main_cst_1, val_main_v30, val_main_v29, val_main_v28, val_main_cst_0, val_main_v27, val_main_v26, val_main_cst, val_main_v25]
  rfl

/-- and by columns, -/
theorem column_angle (l : Fin 8192) (i : Fin 32) : val_main_v46 (F := Ideal) (ix2 l i) = angle (l.val % 64) i.val := by
  pointwise [val_main_v46, val_main_v44, val_main_v45, val_main_v42, val_main_v41, val_main_v24, val_main_v23, val_main_v22, val_main_v21, val_main_v43, val_main_v34, val_main_v33, val_main_cst_2, val_main_v32, val_main_v31, val_main_cst_1, val_main_v30, val_main_v29, val_main_v28, val_main_cst_0, val_main_v27, val_main_v26, val_main_cst, val_main_v25]
  rfl

/-- and both. -/
theorem angles (l : Fin 8192) (a : Fin 2) (i : Fin 32) : val_main_v49 (F := Ideal) (ix3 l a i) = turn l.val a.val i.val := by
  pointwise [val_main_v49, val_main_v47, val_main_v48]
  rw [row_angle, column_angle]
  unfold turn
  have ha := a.isLt
  by_cases h : a.val < 1
  · rw [dif_pos h, if_pos (by omega)]
  · rw [dif_neg h, if_neg (by omega)]

/-- The normalised, modulated tokens. -/
theorem normalised (b : Fin 2) (l : Fin 8192) (k : Fin 1024) : val_main_v71 (F := Ideal) x0 x1 x2 (ix3 b l k) = normed x0 x1 x2 b l k := by
  pointwise [val_main_v71, val_main_v70, val_main_v69, val_main_v68, val_main_v67, val_main_v66, val_main_cst_6, val_main_v65, val_main_v64, val_main_v63, val_main_v62, val_main_v61, val_main_v60, val_main_v59, val_main_v58, val_main_cst_5, val_main_v57, val_main_v56, val_main_cst_4, val_main_v55, val_main_v54, val_main_cst_3, val_main_v53, val_main_v52, val_main_v5, val_main_v4, val_main_v3, val_main_v2, val_main_v1, val_main_v0]
  unfold normed rinv
  rfl

/-- The projected tokens. -/
theorem projected (b : Fin 2) (l : Fin 8192) (n : Fin 5632) : val_main_v73 (F := Ideal) x0 x1 x2 x3 (ix3 b l n) = entry x0 x1 x2 x3 b l n.val := by
  pointwise [val_main_v73, val_main_v72]
  simp only [normalised]
  unfold entry
  rw [dif_pos n.isLt]

/-- The five results that are columns as they are. -/
theorem whole74 (j : S2x8192x1024.Idx) : val_main_v74 (F := Ideal) x0 x1 x2 x3 j = entry x0 x1 x2 x3 (j 0) (j 1) (0 + (j 2).val) := by
  idx_vars j
  pointwise [val_main_v74]
  exact (projected x0 x1 x2 x3 _ _ _).trans (congrArg (entry x0 x1 x2 x3 _ _) (by simp))

theorem whole75 (j : S2x8192x1024.Idx) : val_main_v75 (F := Ideal) x0 x1 x2 x3 j = entry x0 x1 x2 x3 (j 0) (j 1) (1024 + (j 2).val) := by
  idx_vars j
  pointwise [val_main_v75]
  exact projected x0 x1 x2 x3 _ _ _

theorem whole135 (j : S2x8192x256.Idx) : val_main_v135 (F := Ideal) x0 x1 x2 x3 j = entry x0 x1 x2 x3 (j 0) (j 1) (3328 + (j 2).val) := by
  idx_vars j
  pointwise [val_main_v135, val_main_v78]
  exact projected x0 x1 x2 x3 _ _ _

theorem whole79 (j : S2x8192x1024.Idx) : val_main_v79 (F := Ideal) x0 x1 x2 x3 j = entry x0 x1 x2 x3 (j 0) (j 1) (3584 + (j 2).val) := by
  idx_vars j
  pointwise [val_main_v79]
  exact projected x0 x1 x2 x3 _ _ _

theorem whole80 (j : S2x8192x1024.Idx) : val_main_v80 (F := Ideal) x0 x1 x2 x3 j = entry x0 x1 x2 x3 (j 0) (j 1) (4608 + (j 2).val) := by
  idx_vars j
  pointwise [val_main_v80]
  exact projected x0 x1 x2 x3 _ _ _

/-- A head of the reference at place `p`: axis `p / 64`, half `p / 32`, frequency `p`. -/
def head (b : Fin 2) (l : Fin 8192) (o p : ℕ) : EReal :=
  if p / 32 % 2 < 1 then
    entry x0 x1 x2 x3 b l (o + p / 64 * 64 + p % 32) * Ideal.cos (turn l.val (p / 64) (p % 32))
      - entry x0 x1 x2 x3 b l (o + p / 64 * 64 + 32 + p % 32) * Ideal.sin (turn l.val (p / 64) (p % 32))
  else
    entry x0 x1 x2 x3 b l (o + p / 64 * 64 + 32 + p % 32) * Ideal.cos (turn l.val (p / 64) (p % 32))
      + entry x0 x1 x2 x3 b l (o + p / 64 * 64 + p % 32) * Ideal.sin (turn l.val (p / 64) (p % 32))

/-- The place in the reference's head of the place `n` of a result: there half and axis are exchanged. -/
def place (n : ℕ) : ℕ := n / 32 % 2 * 64 + n / 64 % 2 * 32 + n % 32

/-- The reference's head read there is the turned head. -/
theorem head_place (b : Fin 2) (l : Fin 8192) (o n : ℕ) : head x0 x1 x2 x3 b l o (place n) = turned x0 x1 x2 x3 b l o (n % 128) := by
  unfold head turned place
  rw [show (n / 32 % 2 * 64 + n / 64 % 2 * 32 + n % 32) / 32 % 2 = n / 64 % 2 by omega,
    show (n / 32 % 2 * 64 + n / 64 % 2 * 32 + n % 32) / 64 = n / 32 % 2 by omega,
    show (n / 32 % 2 * 64 + n / 64 % 2 * 32 + n % 32) % 32 = n % 32 by omega]
  by_cases h : n % 128 < 64
  · rw [if_pos (by omega), if_pos h, show n / 32 % 2 = n % 128 / 32 by omega, show n % 128 % 32 = n % 32 by omega]
  · rw [if_neg (by omega), if_neg h, show n / 32 % 2 = (n % 128 - 64) / 32 by omega, show n % 128 % 32 = n % 32 by omega]

/-- The first half of a query head's axis, -/
theorem query_first (b : Fin 2) (l : Fin 8192) (h : Fin 8) (a : Fin 2) (i : Fin 32) :
    val_main_v84 (F := Ideal) x0 x1 x2 x3 (ix5 b l h a i) = entry x0 x1 x2 x3 b l (2048 + h.val * 128 + a.val * 64 + i.val) := by
  pointwise [val_main_v84, val_main_v83, val_main_v82, val_main_v81, val_main_v76]
  exact (projected x0 x1 x2 x3 _ _ _).trans (congrArg (entry x0 x1 x2 x3 b l) (by simp only [Nat.add_assoc]))

/-- the second, -/
theorem query_second (b : Fin 2) (l : Fin 8192) (h : Fin 8) (a : Fin 2) (i : Fin 32) :
    val_main_v86 (F := Ideal) x0 x1 x2 x3 (ix5 b l h a i) = entry x0 x1 x2 x3 b l (2048 + h.val * 128 + a.val * 64 + 32 + i.val) := by
  pointwise [val_main_v86, val_main_v85, val_main_v82, val_main_v81, val_main_v76]
  exact (projected x0 x1 x2 x3 _ _ _).trans (congrArg (entry x0 x1 x2 x3 b l) (by simp only [Nat.add_assoc]))

/-- the first half turned, -/
theorem query_fore (b : Fin 2) (l : Fin 8192) (h : Fin 8) (a : Fin 2) (i : Fin 32) :
    val_main_v93 (F := Ideal) x0 x1 x2 x3 (ix5 b l h a i)
      = entry x0 x1 x2 x3 b l (2048 + h.val * 128 + a.val * 64 + i.val) * Ideal.cos (turn l.val a.val i.val)
        - entry x0 x1 x2 x3 b l (2048 + h.val * 128 + a.val * 64 + 32 + i.val) * Ideal.sin (turn l.val a.val i.val) := by
  pointwise [val_main_v93, val_main_v92, val_main_v91, val_main_v90, val_main_v89, val_main_v87, val_main_v88, val_main_v50, val_main_v51]
  rw [query_first, query_second, angles]

/-- the second turned, -/
theorem query_aft (b : Fin 2) (l : Fin 8192) (h : Fin 8) (a : Fin 2) (i : Fin 32) :
    val_main_v98 (F := Ideal) x0 x1 x2 x3 (ix5 b l h a i)
      = entry x0 x1 x2 x3 b l (2048 + h.val * 128 + a.val * 64 + 32 + i.val) * Ideal.cos (turn l.val a.val i.val)
        + entry x0 x1 x2 x3 b l (2048 + h.val * 128 + a.val * 64 + i.val) * Ideal.sin (turn l.val a.val i.val) := by
  pointwise [val_main_v98, val_main_v97, val_main_v96, val_main_v95, val_main_v94, val_main_v87, val_main_v88, val_main_v50, val_main_v51]
  rw [query_first, query_second, angles]

/-- and the head. -/
theorem query_turned (b : Fin 2) (l : Fin 8192) (h : Fin 8) (p : Fin 128) :
    val_main_v102 (F := Ideal) x0 x1 x2 x3 (ix4 b l h p) = head x0 x1 x2 x3 b l (2048 + h.val * 128) p.val := by
  pointwise [val_main_v102, val_main_v101, val_main_v100, val_main_v99]
  unfold head
  by_cases h : p.val / 32 % 2 < 1
  · rw [dif_pos h, if_pos h]
    exact query_fore x0 x1 x2 x3 b l _ _ _
  · rw [dif_neg h, if_neg h]
    exact query_aft x0 x1 x2 x3 b l _ _ _

/-- The first half of a key head's axis, -/
theorem key_first (b : Fin 2) (l : Fin 8192) (h : Fin 2) (a : Fin 2) (i : Fin 32) :
    val_main_v108 (F := Ideal) x0 x1 x2 x3 (ix5 b l h a i) = entry x0 x1 x2 x3 b l (3072 + h.val * 128 + a.val * 64 + i.val) := by
  pointwise [val_main_v108, val_main_v107, val_main_v106, val_main_v105, val_main_v77]
  exact (projected x0 x1 x2 x3 _ _ _).trans (congrArg (entry x0 x1 x2 x3 b l) (by simp only [Nat.add_assoc]))

/-- the second, -/
theorem key_second (b : Fin 2) (l : Fin 8192) (h : Fin 2) (a : Fin 2) (i : Fin 32) :
    val_main_v110 (F := Ideal) x0 x1 x2 x3 (ix5 b l h a i) = entry x0 x1 x2 x3 b l (3072 + h.val * 128 + a.val * 64 + 32 + i.val) := by
  pointwise [val_main_v110, val_main_v109, val_main_v106, val_main_v105, val_main_v77]
  exact (projected x0 x1 x2 x3 _ _ _).trans (congrArg (entry x0 x1 x2 x3 b l) (by simp only [Nat.add_assoc]))

/-- the first half turned, -/
theorem key_fore (b : Fin 2) (l : Fin 8192) (h : Fin 2) (a : Fin 2) (i : Fin 32) :
    val_main_v117 (F := Ideal) x0 x1 x2 x3 (ix5 b l h a i)
      = entry x0 x1 x2 x3 b l (3072 + h.val * 128 + a.val * 64 + i.val) * Ideal.cos (turn l.val a.val i.val)
        - entry x0 x1 x2 x3 b l (3072 + h.val * 128 + a.val * 64 + 32 + i.val) * Ideal.sin (turn l.val a.val i.val) := by
  pointwise [val_main_v117, val_main_v116, val_main_v115, val_main_v114, val_main_v113, val_main_v111, val_main_v112, val_main_v50, val_main_v51]
  rw [key_first, key_second, angles]

/-- the second turned, -/
theorem key_aft (b : Fin 2) (l : Fin 8192) (h : Fin 2) (a : Fin 2) (i : Fin 32) :
    val_main_v122 (F := Ideal) x0 x1 x2 x3 (ix5 b l h a i)
      = entry x0 x1 x2 x3 b l (3072 + h.val * 128 + a.val * 64 + 32 + i.val) * Ideal.cos (turn l.val a.val i.val)
        + entry x0 x1 x2 x3 b l (3072 + h.val * 128 + a.val * 64 + i.val) * Ideal.sin (turn l.val a.val i.val) := by
  pointwise [val_main_v122, val_main_v121, val_main_v120, val_main_v119, val_main_v118, val_main_v111, val_main_v112, val_main_v50, val_main_v51]
  rw [key_first, key_second, angles]

/-- and the head. -/
theorem key_turned (b : Fin 2) (l : Fin 8192) (h : Fin 2) (p : Fin 128) :
    val_main_v126 (F := Ideal) x0 x1 x2 x3 (ix4 b l h p) = head x0 x1 x2 x3 b l (3072 + h.val * 128) p.val := by
  pointwise [val_main_v126, val_main_v125, val_main_v124, val_main_v123]
  unfold head
  by_cases h : p.val / 32 % 2 < 1
  · rw [dif_pos h, if_pos h]
    exact key_fore x0 x1 x2 x3 b l _ _ _
  · rw [dif_neg h, if_neg h]
    exact key_aft x0 x1 x2 x3 b l _ _ _

/-- The place of a result in its reference head, as a place of 128. -/
def slot (n : ℕ) : Fin 128 := ⟨place n, by unfold place; omega⟩

/-- The queries' factor. -/
theorem scaled (z : FVec Ideal S2x8192x8x128 .f32) (b : Fin 2) (l : Fin 8192) (h : Fin 8) (p : Fin 128) :
    (mulf z (val_main_v103 (F := Ideal)) : FVec Ideal S2x8192x8x128 .f32) (ix4 b l h p) = z (ix4 b l h p) * scale := by
  pointwise [val_main_v103, val_main_cst_7]
  rfl

/-- The queries' heads as they are handed on: half and axis exchanged, the rounding changes no value. -/
theorem handed_queries (z : FVec Ideal S2x8192x8x128 .f32) (b : Fin 2) (l : Fin 8192) (n : Fin 1024) :
    (truncf .bf16 (shapeCast S2x8192x1024 (transpose S2x8192x8x2x2x32 [0, 1, 2, 4, 3, 5]
        (shapeCast S2x8192x8x2x2x32 z Gen.shapeCasts_S2x8192x8x128_S2x8192x8x2x2x32)
        Gen.transposes_S2x8192x8x2x2x32_S2x8192x8x2x2x32_0_1_2_4_3_5) Gen.shapeCasts_S2x8192x8x2x2x32_S2x8192x1024) Gen.bitsLt_bf16_f32 :
      FVec Ideal S2x8192x1024 .bf16) (ix3 b l n) = z (ix4 b l ⟨n.val / 128, by omega⟩ (slot n.val)) := by
  pointwise
  rfl

/-- The keys' heads likewise. -/
theorem handed_keys (z : FVec Ideal S2x8192x2x128 .f32) (b : Fin 2) (l : Fin 8192) (n : Fin 256) :
    (truncf .bf16 (shapeCast S2x8192x256 (transpose S2x8192x2x2x2x32 [0, 1, 2, 4, 3, 5]
        (shapeCast S2x8192x2x2x2x32 z Gen.shapeCasts_S2x8192x2x128_S2x8192x2x2x2x32)
        Gen.transposes_S2x8192x2x2x2x32_S2x8192x2x2x2x32_0_1_2_4_3_5) Gen.shapeCasts_S2x8192x2x2x2x32_S2x8192x256) Gen.bitsLt_bf16_f32 :
      FVec Ideal S2x8192x256 .bf16) (ix3 b l n) = z (ix4 b l ⟨n.val / 128, by omega⟩ (slot n.val)) := by
  pointwise
  rfl

/-- The third result is the queries, -/
theorem whole133 (j : S2x8192x1024.Idx) : val_main_v133 (F := Ideal) x0 x1 x2 x3 j = query x0 x1 x2 x3 (j 0) (j 1) (j 2).val := by
  idx_vars j
  unfold val_main_v133 val_main_v129 val_main_v128 val_main_v127 val_main_v104
  refine (handed_queries _ _ _ _).trans ((scaled _ _ _ _ _).trans (congrArg (· * scale) ((query_turned x0 x1 x2 x3 _ _ _ _).trans ?_)))
  exact head_place x0 x1 x2 x3 _ _ _ _

/-- and the fourth the keys. -/
theorem whole134 (j : S2x8192x256.Idx) : val_main_v134 (F := Ideal) x0 x1 x2 x3 j = key x0 x1 x2 x3 (j 0) (j 1) (j 2).val := by
  idx_vars j
  unfold val_main_v134 val_main_v132 val_main_v131 val_main_v130
  exact (handed_keys _ _ _ _).trans ((key_turned x0 x1 x2 x3 _ _ _ _).trans (head_place x0 x1 x2 x3 _ _ _ _))

end Cert.ProjRefIdeal.Formula

end
-- ==== Proof.ProjClaim.lean ====
/- The input projection: the call and the reference agree at all seven results. -/
module

public import proofs.«01_k».proof.Defs
public import proofs.«01_k».proof.Proof.ProjKernel
public import proofs.«01_k».proof.Proof.ProjReference
public import proofs.«01_k».proof.Proof.Gen.ProjRefIdeal.Run

@[expose] public section

set_option maxRecDepth 16384

noncomputable section

namespace Cert.Proof.ProjClaims

open Idealize.ShloMosaic Idealize.SL.Sem

/-- Over the extended reals the projection's seven results are the reference's. -/
theorem algebraic : Cert.algebraic_ProjIdeal_ProjRefIdeal := by
  pair_intro
  · run_from Cert.ProjIdeal.Value.run_blocks m g
  · run_from Cert.ProjRefIdeal.Value.run m' g'
    · refine Eq.trans ?_ (Cert.ProjIdeal.Call.final8 m c).symm
      rw [Cert.ProjRefIdeal.Read.val_main_v74_eq]
      funext j
      exact Cert.ProjRefIdeal.Formula.whole74 _ _ _ _ j
    · refine Eq.trans ?_ (Cert.ProjIdeal.Call.final9 m c).symm
      rw [Cert.ProjRefIdeal.Read.val_main_v75_eq]
      funext j
      exact Cert.ProjRefIdeal.Formula.whole75 _ _ _ _ j
    · refine Eq.trans ?_ (Cert.ProjIdeal.Call.final10 m c).symm
      obtain ⟨h0, h1, h2, h3⟩ := hagree c
      rw [Cert.ProjRefIdeal.Read.val_main_v133_eq, h0, h1, h2, h3]
      funext j
      exact Cert.ProjRefIdeal.Formula.whole133 _ _ _ _ j
    · refine Eq.trans ?_ (Cert.ProjIdeal.Call.final11 m c).symm
      obtain ⟨h0, h1, h2, h3⟩ := hagree c
      rw [Cert.ProjRefIdeal.Read.val_main_v134_eq, h0, h1, h2, h3]
      funext j
      exact Cert.ProjRefIdeal.Formula.whole134 _ _ _ _ j
    · refine Eq.trans ?_ (Cert.ProjIdeal.Call.final12 m c).symm
      rw [Cert.ProjRefIdeal.Read.val_main_v135_eq]
      funext j
      exact Cert.ProjRefIdeal.Formula.whole135 _ _ _ _ j
    · refine Eq.trans ?_ (Cert.ProjIdeal.Call.final13 m c).symm
      rw [Cert.ProjRefIdeal.Read.val_main_v79_eq]
      funext j
      exact Cert.ProjRefIdeal.Formula.whole79 _ _ _ _ j
    · refine Eq.trans ?_ (Cert.ProjIdeal.Call.final14 m c).symm
      rw [Cert.ProjRefIdeal.Read.val_main_v80_eq]
      funext j
      exact Cert.ProjRefIdeal.Formula.whole80 _ _ _ _ j

end Cert.Proof.ProjClaims

end
-- ==== Proof.lean ====
/- The proof of the claims: each program's frame, the idealizations, and the value claims. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.AttnClaim
public import proofs.«01_k».proof.Proof.FfnClaim
public import proofs.«01_k».proof.Proof.MergeClaim
public import proofs.«01_k».proof.Proof.ProjClaim
public import Idealize.ShloMosaic.Adequacy
public import Idealize.ShloMosaic.Init

@[expose] public section

noncomputable section

namespace Cert.Proof

open Idealize.ShloMosaic Idealize.SL.Sem

/-- The one naming of the mask's literal: at the kernel's table its value is `-∞`. -/
theorem mask_named : Cert.preserves_Attn_AttnIdeal :=
  IdealRules.named_const.statement Cert.AttnIdeal.κ "mask" .f32 0xF149F2CA#32 ⊥ rfl

/-- The reference's arguments end unchanged, and it declares no semaphore. -/
theorem attnRef_frame : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run m ρ)

/-- The reference's arguments end unchanged, and it declares no semaphore. -/
theorem ffnRef_frame : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run m ρ)

/-- The reference's arguments end unchanged, and it declares no semaphore. -/
theorem mergeRef_frame : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run m ρ)

/-- The reference's arguments end unchanged, and it declares no semaphore. -/
theorem projRef_frame : Cert.quiescent_ProjRefIdeal := fun m ρ _ =>
  (θ_run Cert.ProjRefIdeal.defs _ _).mono (fun r h => ⟨fun c => (h c).2.2.2.2.2.2.2, sem_eq_zero_of_no_sems (by decide) r.2⟩)
    (Cert.ProjRefIdeal.Value.run m ρ)

/-- Every claim of the certificate. -/
theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts, Cert.Merge.Gen.facts, Cert.MergeIdeal.Gen.facts,
    Cert.MergeRefIdeal.Gen.facts, Cert.Proj.Gen.facts, Cert.ProjIdeal.Gen.facts, Cert.ProjRefIdeal.Gen.facts,
    Cert.Pre_scores_finite.Gen.facts,
    fun m ρ _ => Cert.Attn.Gen.frame m ρ,
    fun m ρ _ => Cert.AttnIdeal.Gen.frame m ρ,
    fun m ρ _ => Cert.AttnIdeal.Gen.frame m ρ,
    fun m ρ _ => attnRef_frame m ρ trivial,
    fun m ρ _ => attnRef_frame m ρ trivial,
    fun m ρ _ => Cert.Ffn.Gen.frame m ρ,
    fun m ρ _ => Cert.FfnIdeal.Gen.frame m ρ,
    fun m ρ _ => ffnRef_frame m ρ trivial,
    fun m ρ _ => Cert.Merge.Gen.frame m ρ,
    fun m ρ _ => Cert.MergeIdeal.Gen.frame m ρ,
    fun m ρ _ => mergeRef_frame m ρ trivial,
    fun m ρ _ => Cert.Proj.Gen.frame m ρ,
    fun m ρ _ => Cert.ProjIdeal.Gen.frame m ρ,
    fun m ρ _ => projRef_frame m ρ trivial,
    mask_named, AttnClaims.algebraic, trivial, FfnClaims.algebraic, trivial, MergeClaims.algebraic,
    trivial, ProjClaims.algebraic⟩

end Cert.Proof

end
